-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v10_7) = v2 c
          ∧ r.2.mem ((c.tc : Thread Cert.ReferenceIdeal.nD Cert.ReferenceIdeal.τ).loc Cert.ReferenceIdeal.main_v10_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S8x4096x1024 : Shape := ⟨3, ![8, 4096, 1024]⟩
abbrev S8 : Shape := ⟨1, ![8]⟩
abbrev S8x128 : Shape := ⟨2, ![8, 128]⟩
abbrev S1024 : Shape := ⟨1, ![1024]⟩
abbrev S8x4096 : Shape := ⟨2, ![8, 4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S8 : S_.BroadcastsInDim S8 (![] : Fin 0 → Fin S8.rank)
  reducesTo_S8_S_d0 : S8.ReducesTo [0] S_
  bcast_S_S8x128 : S_.BroadcastsInDim S8x128 (![] : Fin 0 → Fin S8x128.rank)
  reducesTo_S8x128_S_d0_1 : S8x128.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S8x128 .f32) (main_arg3 : FVec F S8x128 .f32) (main_arg4 : FVec F S1024 .f32) (main_v15 : IVec S_ 1) : IVec S_ 1 :=
  let main_v16 : FVec F S8x128 .f32 := Host.absf main_arg2
  let main_cst_6 : FVec F S_ .f32 := constant S_ .f32 0x7F800000#32
  let main_v17 : FVec F S8x128 .f32 := broadcastInDim S8x128 ![] bcast_S_S8x128 main_cst_6
  let main_v18 : IVec S8x128 1 := cmpf .olt main_v16 main_v17
  let main_c_7 : IVec S_ 1 := constantI S_ 1 1#1
  let main_v19 : IVec S_ 1 := (fun x v => Host.reduce IntOp.andi x v reducesTo_S8x128_S_d0_1 h_S_) main_v18 main_c_7
  let main_v20 : IVec S_ 1 := andi main_v15 main_v19
  let main_cst_8 : FVec F S_ .f32 := constant S_ .f32 0x7F800000#32
  let main_v21 : FVec F S8x128 .f32 := broadcastInDim S8x128 ![] bcast_S_S8x128 main_cst_8
  let main_v22 : IVec S8x128 1 := cmpf .olt main_arg3 main_v21
  let main_c_9 : IVec S_ 1 := constantI S_ 1 1#1
  let main_v23 : IVec S_ 1 := (fun x v => Host.reduce IntOp.andi x v reducesTo_S8x128_S_d0_1 h_S_) main_v22 main_c_9
  let main_v24 : IVec S_ 1 := andi main_v20 main_v23
  let main_v25 : FVec F S1024 .f32 := Host.absf main_arg4
  let main_cst_10 : FVec F S_ .f32 := constant S_ .f32 0x7F800000#32
  let main_v26 : FVec F S1024 .f32 := broadcastInDim S1024 ![] bcast_S_S1024 main_cst_10
  let main_v27 : IVec S1024 1 := cmpf .olt main_v25 main_v26
  let main_c_11 : IVec S_ 1 := constantI S_ 1 1#1
  let main_v28 : IVec S_ 1 := (fun x v => Host.reduce IntOp.andi x v reducesTo_S1024_S_d0 h_S_) main_v27 main_c_11
  let main_v29 : IVec S_ 1 := andi main_v24 main_v28
  main_v29

def fn {F : FTy → Type} [FloatOps F] (main_arg0 : FVec F S8x4096x1024 .f32) (main_arg1 : IVec S8 32) (main_arg2 : FVec F S8x128 .f32) (main_arg3 : FVec F S8x128 .f32) (main_arg4 : FVec F S1024 .f32) (main_arg5 : FVec F S1024 .f32) (main_arg6 : IVec S8x4096 32) : IVec S_ 1 :=
  let main_c : IVec S_ 32 := constantI S_ 32 1#32
  let main_v0 : IVec S8x4096 32 := broadcastInDim S8x4096 ![] bcast_S_S8x4096 main_c
  let main_v1 : IVec S8x4096 1 := cmpi .eq main_arg6 main_v0
  let main_c_0 : IVec S_ 1 := constantI S_ 1 1#1
  let main_v2 : IVec S_ 1 := (fun x v => Host.reduce IntOp.andi x v reducesTo_S8x4096_S_d0_1 h_S_) main_v1 main_c_0
  let main_c_1 : IVec S_ 32 := constantI S_ 32 0#32
  let main_v3 : IVec S8 32 := broadcastInDim S8 ![] bcast_S_S8 main_c_1
  let main_v4 : IVec S8 1 := cmpi .sge main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_cst : FVec F S_ .f32 := constant S_ .f32 0x00000000#32
  let main_v7 : FVec F S8x128 .f32 := broadcastInDim S8x128 ![] bcast_S_S8x128 main_cst
  let main_v8 : IVec S8x128 1 := cmpf .oge main_arg3 main_v7
  let main_c_3 : IVec S_ 1 := constantI S_ 1 1#1
  let main_v9 : IVec S_ 1 := (fun x v => Host.reduce IntOp.andi x v reducesTo_S8x128_S_d0_1 h_S_) main_v8 main_c_3
  let main_v10 : IVec S_ 1 := andi main_v6 main_v9
  let main_v11 : FVec F S8x4096x1024 .f32 := Host.absf main_arg0
  let main_cst_4 : FVec F S_ .f32 := constant S_ .f32 0x7F800000#32
  let main_v12 : FVec F S8x4096x1024 .f32 := broadcastInDim S8x4096x1024 ![] bcast_S_S8x4096x1024 main_cst_4
  let main_v13 : IVec S8x4096x1024 1 := cmpf .olt main_v11 main_v12
  let main_c_5 : IVec S_ 1 := constantI S_ 1 1#1
  let main_v14 : IVec S_ 1 := (fun x v => Host.reduce IntOp.andi x v reducesTo_S8x4096x1024_S_d0_1_2 h_S_) main_v13 main_c_5
  let main_v15 : IVec S_ 1 := andi main_v10 main_v14
  fn_part1 (F := F) main_arg2 main_arg3 main_arg4 main_v15
-- ==== Kernel.lean ====
abbrev S8x4096x1024 : Shape := ⟨3, ![8, 4096, 1024]⟩
abbrev S8 : Shape := ⟨1, ![8]⟩
abbrev S8x128 : Shape := ⟨2, ![8, 128]⟩
abbrev S1024 : Shape := ⟨1, ![1024]⟩
abbrev S8x4096 : Shape := ⟨2, ![8, 4096]⟩
abbrev S1024x128 : Shape := ⟨2, ![1024, 128]⟩
abbrev S256x256 : Shape := ⟨2, ![256, 256]⟩
abbrev S8x1x1 : Shape := ⟨3, ![8, 1, 1]⟩
abbrev S8x1x128 : Shape := ⟨3, ![8, 1, 128]⟩
abbrev S128x128 : Shape := ⟨2, ![128, 128]⟩
abbrev S_ : Shape := ⟨0, ![]⟩
abbrev S128x128x8 : Shape := ⟨3, ![128, 128, 8]⟩
abbrev S128x1024 : Shape := ⟨2, ![128, 1024]⟩
abbrev S1x1024 : Shape := ⟨2, ![1, 1024]⟩
abbrev S1x2048x1024 : Shape := ⟨3, ![1, 2048, 1024]⟩
abbrev S1x1x1 : Shape := ⟨3, ![1, 1, 1]⟩
abbrev S1x1x128 : Shape := ⟨3, ![1, 1, 128]⟩
abbrev S1x128 : Shape := ⟨2, ![1, 128]⟩
abbrev S1 : Shape := ⟨1, ![1]⟩
abbrev S2048x1024 : Shape := ⟨2, ![2048, 1024]⟩
abbrev S2048x128 : Shape := ⟨2, ![2048, 128]⟩
abbrev S2048x256 : Shape := ⟨2, ![2048, 256]⟩
abbrev S1x256 : Shape := ⟨2, ![1, 256]⟩
abbrev S2048x1 : Shape := ⟨2, ![2048, 1]⟩
abbrev S1x1 : Shape := ⟨2, ![1, 1]⟩

abbrev nBuf : Space → Nat
  | .hbm => 36
  | .vmem => 23
  | .smem => 1
  | _ => 0

abbrev bufTy : (tb : Table) → Fin (tcTables nBuf tb) → BufTy
  | .hbm, ⟨0, _⟩ => ⟨S8x4096x1024, .f32⟩
  | .hbm, ⟨1, _⟩ => ⟨S8, .i32⟩
  | .hbm, ⟨2, _⟩ => ⟨S8x128, .f32⟩
  | .hbm, ⟨3, _⟩ => ⟨S8x128, .f32⟩
  | .hbm, ⟨4, _⟩ => ⟨S1024, .f32⟩
  | .hbm, ⟨5, _⟩ => ⟨S1024, .f32⟩
  | .hbm, ⟨6, _⟩ => ⟨S8x4096, .i32⟩
  | .hbm, ⟨7, _⟩ => ⟨S1024x128, .f32⟩
  | .hbm, ⟨8, _⟩ => ⟨S256x256, .f32⟩
  | .hbm, ⟨9, _⟩ => ⟨S8, .f32⟩
  | .hbm, ⟨10, _⟩ => ⟨S8x1x1, .f32⟩
  | .hbm, ⟨11, _⟩ => ⟨S8x1x128, .f32⟩
  | .hbm, ⟨12, _⟩ => ⟨S8x1x128, .f32⟩
  | .hbm, ⟨13, _⟩ => ⟨S1024x128, .bf16⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .f32⟩
  | .hbm, ⟨21, _⟩ => ⟨S128x128x8, .f32⟩
  | .hbm, ⟨22, _⟩ => ⟨S128x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S8x4096x1024, .f32⟩
  | .hbm, ⟨29, _⟩ => ⟨S8x1x1, .f32⟩
  | .hbm, ⟨30, _⟩ => ⟨S8x1x128, .f32⟩
  | .hbm, ⟨31, _⟩ => ⟨S8x1x128, .f32⟩
  | .hbm, ⟨32, _⟩ => ⟨S8, .f32⟩
  | .hbm, ⟨33, _⟩ => ⟨S8, .i32⟩
  | .hbm, ⟨34, _⟩ => ⟨S8x128, .f32⟩
  | .hbm, ⟨35, _⟩ => ⟨S8x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1, .f32⟩
  | .local _ .vmem, ⟨3, _⟩ => ⟨S1x1x1, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S128x1024, .f32⟩
  | .local _ .vmem, ⟨12, _⟩ => ⟨S256x256, .f32⟩
  | .local _ .vmem, ⟨13, _⟩ => ⟨S1x2048x1024, .f32⟩
  | .local _ .vmem, ⟨14, _⟩ => ⟨S1x2048x1024, .f32⟩
  | .local _ .vmem, ⟨15, _⟩ => ⟨S1x1x1, .f32⟩
  | .local _ .vmem, ⟨16, _⟩ => ⟨S1x1x1, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x128, .f32⟩
  | .local _ .vmem, ⟨22, _⟩ => ⟨S1x128, .f32⟩
  | .local _ .smem, ⟨0, _⟩ => ⟨S1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x4096x1024 : Shape := ⟨3, ![8, 4096, 1024]⟩
abbrev S8 : Shape := ⟨1, ![8]⟩
abbrev S8x128 : Shape := ⟨2, ![8, 128]⟩
abbrev S1024 : Shape := ⟨1, ![1024]⟩
abbrev S8x4096 : Shape := ⟨2, ![8, 4096]⟩
abbrev S_ : Shape := ⟨0, ![]⟩
abbrev S128x8 : Shape := ⟨2, ![128, 8]⟩
abbrev S8x4096x128x8 : Shape := ⟨4, ![8, 4096, 128, 8]⟩
abbrev S4096x8x128x8 : Shape := ⟨4, ![4096, 8, 128, 8]⟩
abbrev S4096x8 : Shape := ⟨2, ![4096, 8]⟩
abbrev S1x8x128x8 : Shape := ⟨4, ![1, 8, 128, 8]⟩
abbrev S8x128x8 : Shape := ⟨3, ![8, 128, 8]⟩
abbrev S1x8 : Shape := ⟨2, ![1, 8]⟩
abbrev S8x128x1 : Shape := ⟨3, ![8, 128, 1]⟩
abbrev S8x1 : Shape := ⟨2, ![8, 1]⟩
abbrev S1x128x8 : Shape := ⟨3, ![1, 128, 8]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .i32⟩
  | .hbm, ⟨2, _⟩ => ⟨S8x128, .f32⟩
  | .hbm, ⟨3, _⟩ => ⟨S8x128, .f32⟩
  | .hbm, ⟨4, _⟩ => ⟨S1024, .f32⟩
  | .hbm, ⟨5, _⟩ => ⟨S1024, .f32⟩
  | .hbm, ⟨6, _⟩ => ⟨S8x4096, .i32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S128x8, .f32⟩
  | .hbm, ⟨11, _⟩ => ⟨S128x8, .f32⟩
  | .hbm, ⟨12, _⟩ => ⟨S8x4096x128x8, .f32⟩
  | .hbm, ⟨13, _⟩ => ⟨S4096x8x128x8, .f32⟩
  | .hbm, ⟨14, _⟩ => ⟨S8x4096, .f32⟩
  | .hbm, ⟨15, _⟩ => ⟨S4096x8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S4096x8x128x8, .f32⟩
  | .hbm, ⟨20, _⟩ => ⟨S_, .i32⟩
  | .hbm, ⟨21, _⟩ => ⟨S4096x8x128x8, .f32⟩
  | .hbm, ⟨22, _⟩ => ⟨S4096x8, .f32⟩
  | .hbm, ⟨23, _⟩ => ⟨S_, .f32⟩
  | .hbm, ⟨24, _⟩ => ⟨S128x8, .f32⟩
  | .hbm, ⟨25, _⟩ => ⟨S128x8, .f32⟩
  | .hbm, ⟨26, _⟩ => ⟨S_, .i32⟩
  | .hbm, ⟨27, _⟩ => ⟨S8, .f32⟩
  | .hbm, ⟨28, _⟩ => ⟨S8x128, .f32⟩
  | .hbm, ⟨29, _⟩ => ⟨S8x128, .f32⟩
  | .hbm, ⟨30, _⟩ => ⟨S4096x8x128x8, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x128x8, .f32⟩
  | .hbm, ⟨37, _⟩ => ⟨S8x128x8, .f32⟩
  | .hbm, ⟨38, _⟩ => ⟨S_, .i32⟩
  | .hbm, ⟨39, _⟩ => ⟨S1x8, .f32⟩
  | .hbm, ⟨40, _⟩ => ⟨S8, .f32⟩
  | .hbm, ⟨41, _⟩ => ⟨S_, .f32⟩
  | .hbm, ⟨42, _⟩ => ⟨S8x128, .f32⟩
  | .hbm, ⟨43, _⟩ => ⟨S_, .f32⟩
  | .hbm, ⟨44, _⟩ => ⟨S8x128, .f32⟩
  | .hbm, ⟨45, _⟩ => ⟨S8x128, .f32⟩
  | .hbm, ⟨46, _⟩ => ⟨S8x128x1, .f32⟩
  | .hbm, ⟨47, _⟩ => ⟨S8x128x8, .f32⟩
  | .hbm, ⟨48, _⟩ => ⟨S8x128x8, .f32⟩
  | .hbm, ⟨49, _⟩ => ⟨S8x128x8, .f32⟩
  | .hbm, ⟨50, _⟩ => ⟨S_, .f32⟩
  | .hbm, ⟨51, _⟩ => ⟨S8x128, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S8x128, .f32⟩
  | .hbm, ⟨57, _⟩ => ⟨S8, .f32⟩
  | .hbm, ⟨58, _⟩ => ⟨S8, .f32⟩
  | .hbm, ⟨59, _⟩ => ⟨S8x1, .f32⟩
  | .hbm, ⟨60, _⟩ => ⟨S8x128, .f32⟩
  | .hbm, ⟨61, _⟩ => ⟨S8x128, .f32⟩
  | .hbm, ⟨62, _⟩ => ⟨S8x128, .f32⟩
  | .hbm, ⟨63, _⟩ => ⟨S8x1, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S8x128, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S8x1, .f32⟩
  | .hbm, ⟨72, _⟩ => ⟨S8x128, .f32⟩
  | .hbm, ⟨73, _⟩ => ⟨S8x128, .f32⟩
  | .hbm, ⟨74, _⟩ => ⟨S8x128, .f32⟩
  | .hbm, ⟨75, _⟩ => ⟨S8x1, .f32⟩
  | .hbm, ⟨76, _⟩ => ⟨S8x128, .f32⟩
  | .hbm, ⟨77, _⟩ => ⟨S8x128, .f32⟩
  | .hbm, ⟨78, _⟩ => ⟨S8x1, .f32⟩
  | .hbm, ⟨79, _⟩ => ⟨S8x128, .f32⟩
  | .hbm, ⟨80, _⟩ => ⟨S8x128, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x128, .f32⟩
  | .hbm, ⟨85, _⟩ => ⟨S8x128, .f32⟩
  | .hbm, ⟨86, _⟩ => ⟨S8x128, .f32⟩
  | .hbm, ⟨87, _⟩ => ⟨S8, .f32⟩
  | .hbm, ⟨88, _⟩ => ⟨S_, .f32⟩
  | .hbm, ⟨89, _⟩ => ⟨S8x128, .f32⟩
  | .hbm, ⟨90, _⟩ => ⟨S8x128, .f32⟩
  | .hbm, ⟨91, _⟩ => ⟨S8x128, .f32⟩
  | .hbm, ⟨92, _⟩ => ⟨S8x128x1, .f32⟩
  | .hbm, ⟨93, _⟩ => ⟨S8x128x8, .f32⟩
  | .hbm, ⟨94, _⟩ => ⟨S8x128x8, .f32⟩
  | .hbm, ⟨95, _⟩ => ⟨S8x128x1, .f32⟩
  | .hbm, ⟨96, _⟩ => ⟨S8x128x8, .f32⟩
  | .hbm, ⟨97, _⟩ => ⟨S8x128x8, .f32⟩
  | .hbm, ⟨98, _⟩ => ⟨S1x128x8, .f32⟩
  | .hbm, ⟨99, _⟩ => ⟨S8x128x8, .f32⟩
  | .hbm, ⟨100, _⟩ => ⟨S8x128x8, .f32⟩
  | .hbm, ⟨101, _⟩ => ⟨S1x128x8, .f32⟩
  | .hbm, ⟨102, _⟩ => ⟨S8x128x8, .f32⟩
  | .hbm, ⟨103, _⟩ => ⟨S8x128x8, .f32⟩
  | .hbm, ⟨104, _⟩ => ⟨S1x8x128x8, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S4096x8x128x8, .f32⟩
  | .hbm, ⟨109, _⟩ => ⟨S_, .i32⟩
  | .hbm, ⟨110, _⟩ => ⟨S_, .i32⟩
  | .hbm, ⟨111, _⟩ => ⟨S8x4096x128x8, .f32⟩
  | .hbm, ⟨112, _⟩ => ⟨S8x4096x1024, .f32⟩
  | .hbm, ⟨113, _⟩ => ⟨S8, .i32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_cst_1 : Ref sig .tc := ⟨.hbm, 18, rfl⟩
abbrev main_v9 : Ref sig .tc := ⟨.hbm, 19, rfl⟩
abbrev main_c : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev main_while0c_c_11 : Ref sig .tc := ⟨.hbm, 31, rfl⟩
abbrev main_while0c_v14 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v14 : Ref sig .tc := ⟨.hbm, 37, rfl⟩
abbrev main_while0b_call1_c : Ref sig .tc := ⟨.hbm, 38, rfl⟩
abbrev main_while0b_call1_v0 : Ref sig .tc := ⟨.hbm, 39, rfl⟩
abbrev main_while0b_v15 : Ref sig .tc := ⟨.hbm, 40, rfl⟩
abbrev main_while0b_cst_11 : Ref sig .tc := ⟨.hbm, 41, rfl⟩
abbrev main_while0b_v16 : Ref sig .tc := ⟨.hbm, 42, rfl⟩
abbrev main_while0b_cst_12 : Ref sig .tc := ⟨.hbm, 43, rfl⟩
abbrev main_while0b_v17 : Ref sig .tc := ⟨.hbm, 44, rfl⟩
abbrev main_while0b_v18 : Ref sig .tc := ⟨.hbm, 45, rfl⟩
abbrev main_while0b_v19 : Ref sig .tc := ⟨.hbm, 46, rfl⟩
abbrev main_while0b_v20 : Ref sig .tc := ⟨.hbm, 47, rfl⟩
abbrev main_while0b_v21 : Ref sig .tc := ⟨.hbm, 48, rfl⟩
abbrev main_while0b_v22 : Ref sig .tc := ⟨.hbm, 49, rfl⟩
abbrev main_while0b_cst_13 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_v58 : Ref sig .tc := ⟨.hbm, 86, rfl⟩
abbrev main_while0b_v59 : Ref sig .tc := ⟨.hbm, 87, rfl⟩
abbrev main_while0b_cst_14 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_call2_v0 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_v75 : Ref sig .tc := ⟨.hbm, 108, rfl⟩
abbrev main_while0b_c_15 : Ref sig .tc := ⟨.hbm, 109, rfl⟩
abbrev main_while0b_v76 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩

abbrev nD : Nat := 1
abbrev τ : Topo := Topo.v7x

variable {F : FTy → Type} [FloatOps F]

abbrev main_while0_count : Scf.Loop 32 := ⟨0#32, 4096#32, 1#32⟩
-- ==== Proof.Pick.lean ====
/-
  Choosing one of 128 values by number. The program's constant tables are printed as choices among 128 numbered
  entries, of which each is a word or again such a choice; a choice whose entry `j` is `h j`, for every `j` below 128,
  is `h` at the number chosen by.
-/
module

public import Idealize.ShloMosaic.PureOps
public import Mathlib.Tactic.IntervalCases

@[expose] public section

set_option maxRecDepth 16384
set_option maxHeartbeats 4000000

namespace Cert.KernelIdeal.Tables

/-- The word of the number one where a condition holds, and of zero where it does not. -/
def bitOf (b : Bool) : BitVec 32 := bif b then 0x3F800000#32 else 0#32

/-- Entry `c` of row `r` of the table that sums 8 neighbouring lanes into one: one exactly where `r / 8 = c`. -/
def groupRow (r c : ℕ) : BitVec 32 := bitOf (Nat.beq (r / 8) c)

/-- Entry `c` of the `r`-th run of 128 entries of the table of running sums: run `r` lies in row `r / 2`, at the columns
    from `128 * (r % 2)`, and an entry is one exactly where its column is at most its row. -/
def lowerRow (r c : ℕ) : BitVec 32 := bitOf (Nat.ble (128 * (r % 2) + c) (r / 2))

/-- `h` at a number below 128 is the choice, by that number, among the 128 values `h 0`, `h 1`, … -/
theorem pick (h : ℕ → BitVec 32) (n : ℕ) : n < 128 → h n = (match n with
    | 0 => h 0 | 1 => h 1 | 2 => h 2 | 3 => h 3 | 4 => h 4 | 5 => h 5 | 6 => h 6 | 7 => h 7
    | 8 => h 8 | 9 => h 9 | 10 => h 10 | 11 => h 11 | 12 => h 12 | 13 => h 13 | 14 => h 14 | 15 => h 15
    | 16 => h 16 | 17 => h 17 | 18 => h 18 | 19 => h 19 | 20 => h 20 | 21 => h 21 | 22 => h 22 | 23 => h 23
    | 24 => h 24 | 25 => h 25 | 26 => h 26 | 27 => h 27 | 28 => h 28 | 29 => h 29 | 30 => h 30 | 31 => h 31
    | 32 => h 32 | 33 => h 33 | 34 => h 34 | 35 => h 35 | 36 => h 36 | 37 => h 37 | 38 => h 38 | 39 => h 39
    | 40 => h 40 | 41 => h 41 | 42 => h 42 | 43 => h 43 | 44 => h 44 | 45 => h 45 | 46 => h 46 | 47 => h 47
    | 48 => h 48 | 49 => h 49 | 50 => h 50 | 51 => h 51 | 52 => h 52 | 53 => h 53 | 54 => h 54 | 55 => h 55
    | 56 => h 56 | 57 => h 57 | 58 => h 58 | 59 => h 59 | 60 => h 60 | 61 => h 61 | 62 => h 62 | 63 => h 63
    | 64 => h 64 | 65 => h 65 | 66 => h 66 | 67 => h 67 | 68 => h 68 | 69 => h 69 | 70 => h 70 | 71 => h 71
    | 72 => h 72 | 73 => h 73 | 74 => h 74 | 75 => h 75 | 76 => h 76 | 77 => h 77 | 78 => h 78 | 79 => h 79
    | 80 => h 80 | 81 => h 81 | 82 => h 82 | 83 => h 83 | 84 => h 84 | 85 => h 85 | 86 => h 86 | 87 => h 87
    | 88 => h 88 | 89 => h 89 | 90 => h 90 | 91 => h 91 | 92 => h 92 | 93 => h 93 | 94 => h 94 | 95 => h 95
    | 96 => h 96 | 97 => h 97 | 98 => h 98 | 99 => h 99 | 100 => h 100 | 101 => h 101 | 102 => h 102 | 103 => h 103
    | 104 => h 104 | 105 => h 105 | 106 => h 106 | 107 => h 107 | 108 => h 108 | 109 => h 109 | 110 => h 110 | 111 => h 111
    | 112 => h 112 | 113 => h 113 | 114 => h 114 | 115 => h 115 | 116 => h 116 | 117 => h 117 | 118 => h 118 | 119 => h 119
    | 120 => h 120 | 121 => h 121 | 122 => h 122 | 123 => h 123 | 124 => h 124 | 125 => h 125 | 126 => h 126 | 127 => h 127
    | _ => 0#32) := by
  intro hn
  interval_cases n <;> rfl

/-- The choice among 128 values, of which the `j`-th equals `h j`, made by a number below 128, is `h` of that number. -/
theorem pick_eq (h : ℕ → BitVec 32) (n : ℕ) (
    x0 x1 x2 x3 x4 x5 x6 x7 x8 x9 x10 x11 x12 x13 x14 x15
    x16 x17 x18 x19 x20 x21 x22 x23 x24 x25 x26 x27 x28 x29 x30 x31
    x32 x33 x34 x35 x36 x37 x38 x39 x40 x41 x42 x43 x44 x45 x46 x47
    x48 x49 x50 x51 x52 x53 x54 x55 x56 x57 x58 x59 x60 x61 x62 x63
    x64 x65 x66 x67 x68 x69 x70 x71 x72 x73 x74 x75 x76 x77 x78 x79
    x80 x81 x82 x83 x84 x85 x86 x87 x88 x89 x90 x91 x92 x93 x94 x95
    x96 x97 x98 x99 x100 x101 x102 x103 x104 x105 x106 x107 x108 x109 x110 x111
    x112 x113 x114 x115 x116 x117 x118 x119 x120 x121 x122 x123 x124 x125 x126 x127
    : BitVec 32)
    (e0 : x0 = h 0) (e1 : x1 = h 1) (e2 : x2 = h 2) (e3 : x3 = h 3) (e4 : x4 = h 4) (e5 : x5 = h 5)
    (e6 : x6 = h 6) (e7 : x7 = h 7) (e8 : x8 = h 8) (e9 : x9 = h 9) (e10 : x10 = h 10) (e11 : x11 = h 11)
    (e12 : x12 = h 12) (e13 : x13 = h 13) (e14 : x14 = h 14) (e15 : x15 = h 15) (e16 : x16 = h 16) (e17 : x17 = h 17)
    (e18 : x18 = h 18) (e19 : x19 = h 19) (e20 : x20 = h 20) (e21 : x21 = h 21) (e22 : x22 = h 22) (e23 : x23 = h 23)
    (e24 : x24 = h 24) (e25 : x25 = h 25) (e26 : x26 = h 26) (e27 : x27 = h 27) (e28 : x28 = h 28) (e29 : x29 = h 29)
    (e30 : x30 = h 30) (e31 : x31 = h 31) (e32 : x32 = h 32) (e33 : x33 = h 33) (e34 : x34 = h 34) (e35 : x35 = h 35)
    (e36 : x36 = h 36) (e37 : x37 = h 37) (e38 : x38 = h 38) (e39 : x39 = h 39) (e40 : x40 = h 40) (e41 : x41 = h 41)
    (e42 : x42 = h 42) (e43 : x43 = h 43) (e44 : x44 = h 44) (e45 : x45 = h 45) (e46 : x46 = h 46) (e47 : x47 = h 47)
    (e48 : x48 = h 48) (e49 : x49 = h 49) (e50 : x50 = h 50) (e51 : x51 = h 51) (e52 : x52 = h 52) (e53 : x53 = h 53)
    (e54 : x54 = h 54) (e55 : x55 = h 55) (e56 : x56 = h 56) (e57 : x57 = h 57) (e58 : x58 = h 58) (e59 : x59 = h 59)
    (e60 : x60 = h 60) (e61 : x61 = h 61) (e62 : x62 = h 62) (e63 : x63 = h 63) (e64 : x64 = h 64) (e65 : x65 = h 65)
    (e66 : x66 = h 66) (e67 : x67 = h 67) (e68 : x68 = h 68) (e69 : x69 = h 69) (e70 : x70 = h 70) (e71 : x71 = h 71)
    (e72 : x72 = h 72) (e73 : x73 = h 73) (e74 : x74 = h 74) (e75 : x75 = h 75) (e76 : x76 = h 76) (e77 : x77 = h 77)
    (e78 : x78 = h 78) (e79 : x79 = h 79) (e80 : x80 = h 80) (e81 : x81 = h 81) (e82 : x82 = h 82) (e83 : x83 = h 83)
    (e84 : x84 = h 84) (e85 : x85 = h 85) (e86 : x86 = h 86) (e87 : x87 = h 87) (e88 : x88 = h 88) (e89 : x89 = h 89)
    (e90 : x90 = h 90) (e91 : x91 = h 91) (e92 : x92 = h 92) (e93 : x93 = h 93) (e94 : x94 = h 94) (e95 : x95 = h 95)
    (e96 : x96 = h 96) (e97 : x97 = h 97) (e98 : x98 = h 98) (e99 : x99 = h 99) (e100 : x100 = h 100) (e101 : x101 = h 101)
    (e102 : x102 = h 102) (e103 : x103 = h 103) (e104 : x104 = h 104) (e105 : x105 = h 105) (e106 : x106 = h 106) (e107 : x107 = h 107)
    (e108 : x108 = h 108) (e109 : x109 = h 109) (e110 : x110 = h 110) (e111 : x111 = h 111) (e112 : x112 = h 112) (e113 : x113 = h 113)
    (e114 : x114 = h 114) (e115 : x115 = h 115) (e116 : x116 = h 116) (e117 : x117 = h 117) (e118 : x118 = h 118) (e119 : x119 = h 119)
    (e120 : x120 = h 120) (e121 : x121 = h 121) (e122 : x122 = h 122) (e123 : x123 = h 123) (e124 : x124 = h 124) (e125 : x125 = h 125)
    (e126 : x126 = h 126) (e127 : x127 = h 127)
    : n < 128 → (match n with
    | 0 => x0 | 1 => x1 | 2 => x2 | 3 => x3 | 4 => x4 | 5 => x5 | 6 => x6 | 7 => x7
    | 8 => x8 | 9 => x9 | 10 => x10 | 11 => x11 | 12 => x12 | 13 => x13 | 14 => x14 | 15 => x15
    | 16 => x16 | 17 => x17 | 18 => x18 | 19 => x19 | 20 => x20 | 21 => x21 | 22 => x22 | 23 => x23
    | 24 => x24 | 25 => x25 | 26 => x26 | 27 => x27 | 28 => x28 | 29 => x29 | 30 => x30 | 31 => x31
    | 32 => x32 | 33 => x33 | 34 => x34 | 35 => x35 | 36 => x36 | 37 => x37 | 38 => x38 | 39 => x39
    | 40 => x40 | 41 => x41 | 42 => x42 | 43 => x43 | 44 => x44 | 45 => x45 | 46 => x46 | 47 => x47
    | 48 => x48 | 49 => x49 | 50 => x50 | 51 => x51 | 52 => x52 | 53 => x53 | 54 => x54 | 55 => x55
    | 56 => x56 | 57 => x57 | 58 => x58 | 59 => x59 | 60 => x60 | 61 => x61 | 62 => x62 | 63 => x63
    | 64 => x64 | 65 => x65 | 66 => x66 | 67 => x67 | 68 => x68 | 69 => x69 | 70 => x70 | 71 => x71
    | 72 => x72 | 73 => x73 | 74 => x74 | 75 => x75 | 76 => x76 | 77 => x77 | 78 => x78 | 79 => x79
    | 80 => x80 | 81 => x81 | 82 => x82 | 83 => x83 | 84 => x84 | 85 => x85 | 86 => x86 | 87 => x87
    | 88 => x88 | 89 => x89 | 90 => x90 | 91 => x91 | 92 => x92 | 93 => x93 | 94 => x94 | 95 => x95
    | 96 => x96 | 97 => x97 | 98 => x98 | 99 => x99 | 100 => x100 | 101 => x101 | 102 => x102 | 103 => x103
    | 104 => x104 | 105 => x105 | 106 => x106 | 107 => x107 | 108 => x108 | 109 => x109 | 110 => x110 | 111 => x111
    | 112 => x112 | 113 => x113 | 114 => x114 | 115 => x115 | 116 => x116 | 117 => x117 | 118 => x118 | 119 => x119
    | 120 => x120 | 121 => x121 | 122 => x122 | 123 => x123 | 124 => x124 | 125 => x125 | 126 => x126 | 127 => x127
    | _ => 0#32) = h n := by
  intro hn
  interval_cases n <;> assumption

end Cert.KernelIdeal.Tables

end
-- ==== Proof.TableGroups.lean ====
module

public import proofs.«01_k».proof.KernelIdeal.P06
public import proofs.«01_k».proof.Proof.Pick

@[expose] public section

set_option maxRecDepth 16384
set_option maxHeartbeats 0

namespace Cert.KernelIdeal.Tables

/-- The printed table that sums 8 neighbouring lanes into one, entry by entry. -/
theorem groups (i : ℕ) (hi : i < 131072) : lit0t i = groupRow (i / 128) (i % 128) := by
  have hk : i / 128 % 128 < 128 := Nat.mod_lt _ (by decide)
  have hc : i % 128 < 128 := Nat.mod_lt _ (by decide)
  obtain ⟨a, ha⟩ : ∃ a, i / 16384 = a := ⟨_, rfl⟩
  have ha' : a < 8 := by omega
  rw [show i / 128 = 128 * a + i / 128 % 128 by omega]
  unfold lit0t
  rw [ha]
  interval_cases a <;> apply pick_eq (fun k => groupRow (128 * _ + k) (i % 128)) <;>
    first | exact hk | exact Eq.symm (pick (groupRow _) _ hc)

end Cert.KernelIdeal.Tables

end
-- ==== Proof.TableLower.lean ====
module

public import proofs.«01_k».proof.KernelIdeal
public import proofs.«01_k».proof.Proof.Pick

@[expose] public section

set_option maxRecDepth 16384
set_option maxHeartbeats 0

namespace Cert.KernelIdeal.Tables

/-- The printed table of running sums, entry by entry. -/
theorem lower (i : ℕ) (hi : i < 65536) : lit1t i = lowerRow (i / 128) (i % 128) := by
  have hk : i / 128 % 128 < 128 := Nat.mod_lt _ (by decide)
  have hc : i % 128 < 128 := Nat.mod_lt _ (by decide)
  obtain ⟨a, ha⟩ : ∃ a, i / 16384 = a := ⟨_, rfl⟩
  have ha' : a < 4 := by omega
  rw [show i / 128 = 128 * a + i / 128 % 128 by omega]
  unfold lit1t
  rw [ha]
  interval_cases a <;> apply pick_eq (fun k => lowerRow (128 * _ + k) (i % 128)) <;>
    first | exact hk | exact Eq.symm (pick (lowerRow _) _ hc)

end Cert.KernelIdeal.Tables

end
-- ==== Proof.Stats.lean ====
/-
  The running mean and variance of one group of eight lanes, over the reals: the step-by-step update of the scan
  (`mean`, `var`) and the plain sums the kernel keeps (`sum1`, `sum2`), and why they agree.
-/
module

public import Mathlib.Analysis.SpecialFunctions.Pow.Real

@[expose] public section

noncomputable section

namespace Cert.Stats

variable (pc pm pv : ℝ) (x : ℕ → Fin 8 → ℝ)

/-- The sum of everything seen before timestep `t`: the earlier elements' sum, then eight lanes a timestep. -/
def sum1 (t : ℕ) : ℝ := pc * 8 * pm + ∑ s ∈ Finset.range t, ∑ j, x s j

/-- The sum of the squares of everything seen before timestep `t`. -/
def sum2 (t : ℕ) : ℝ := pc * 8 * (pv + pm * pm) + ∑ s ∈ Finset.range t, ∑ j, x s j * x s j

/-- The sum before timestep `n + k` is the one before `n` and the `k` timesteps after. -/
theorem sum1_add (n k : ℕ) : sum1 pc pm x (n + k) = sum1 pc pm x n + ∑ s ∈ Finset.range k, ∑ j, x (n + s) j := by
  rw [sum1, sum1, Finset.sum_range_add, add_assoc]

/-- The sum of squares before timestep `n + k` is the one before `n` and the `k` timesteps after. -/
theorem sum2_add (n k : ℕ) :
    sum2 pc pm pv x (n + k) = sum2 pc pm pv x n + ∑ s ∈ Finset.range k, ∑ j, x (n + s) j * x (n + s) j := by
  rw [sum2, sum2, Finset.sum_range_add, add_assoc]

/-- The mean of the eight lanes at timestep `t`. -/
def mu (t : ℕ) : ℝ := (∑ j, x t j) / 8

/-- The eight lanes' summed squared distance from their mean at timestep `t`. -/
def ssq (t : ℕ) : ℝ := ∑ j, (x t j - mu x t) * (x t j - mu x t)

/-- The running mean before timestep `t`, updated one timestep at a time. -/
def mean : ℕ → ℝ
  | 0 => pm
  | t + 1 => mean t + (mu x t - mean t) * (8 / ((pc + t) * 8 + 8))

/-- The running variance before timestep `t`, updated one timestep at a time. -/
def var : ℕ → ℝ
  | 0 => pv
  | t + 1 => (var t * ((pc + t) * 8) + ssq x t
      + (mu x t - mean pc pm x t) * (mu x t - mean pc pm x t) * ((pc + t) * 8 * 8 / ((pc + t) * 8 + 8)))
      / ((pc + t) * 8 + 8)

/-- Eight lanes' summed squares are eight times their squared mean and their summed squared distance from it. -/
theorem ssq_eq (t : ℕ) : ssq x t = (∑ j, x t j * x t j) - 8 * (mu x t * mu x t) := by
  unfold ssq mu
  simp only [Fin.sum_univ_eight]
  ring

theorem sum_eq_mu (t : ℕ) : ∑ j, x t j = 8 * mu x t := by
  unfold mu; ring

variable {pc pm pv}

/-- The number of elements seen times the running mean is their sum. -/
theorem mean_sum (hc : 0 ≤ pc) : ∀ t : ℕ, (pc + t) * 8 * mean pc pm x t = sum1 pc pm x t
  | 0 => by simp [mean, sum1]
  | t + 1 => by
    have ih := mean_sum hc t
    have hp : (pc + t) * 8 + 8 ≠ 0 := by positivity
    have e : sum1 pc pm x (t + 1) = sum1 pc pm x t + 8 * mu x t := by
      rw [sum1, sum1, Finset.sum_range_succ, sum_eq_mu x t]; ring
    rw [e, ← ih, mean]
    push_cast
    field_simp
    ring

/-- The number of elements seen times the running variance and squared mean is the sum of their squares. -/
theorem var_sum (hc : 0 ≤ pc) : ∀ t : ℕ,
    (pc + t) * 8 * (var pc pm pv x t + mean pc pm x t * mean pc pm x t) = sum2 pc pm pv x t
  | 0 => by simp [mean, var, sum2]
  | t + 1 => by
    have ih := var_sum hc t
    have hp : (pc + t) * 8 + 8 ≠ 0 := by positivity
    have e : sum2 pc pm pv x (t + 1) = sum2 pc pm pv x t + (ssq x t + 8 * (mu x t * mu x t)) := by
      rw [ssq_eq, sum2, sum2, Finset.sum_range_succ]; ring
    rw [e, ← ih, mean, var]
    push_cast
    field_simp
    ring

/-- The running variance is never negative. -/
theorem var_nonneg (hc : 0 ≤ pc) (hv : 0 ≤ pv) : ∀ t : ℕ, 0 ≤ var pc pm pv x t
  | 0 => hv
  | t + 1 => by
    have ih := var_nonneg hc hv t
    have hs : 0 ≤ ssq x t := Finset.sum_nonneg fun j _ => mul_self_nonneg _
    have hd := mul_self_nonneg (mu x t - mean pc pm x t)
    rw [var]
    positivity

/-- The running mean after timestep `t` is the sum so far times the reciprocal of the number of elements. -/
theorem mean_eq (hc : 0 ≤ pc) (t : ℕ) :
    sum1 pc pm x (t + 1) * (1 / ((pc + t + 1) * 8)) = mean pc pm x (t + 1) := by
  have h := mean_sum (pm := pm) x hc (t + 1)
  have hp : (pc + t + 1) * 8 ≠ 0 := by positivity
  rw [← h]; push_cast; field_simp; ring

/-- The running variance after timestep `t` is the mean square less the squared mean. -/
theorem var_eq (hc : 0 ≤ pc) (t : ℕ) :
    sum2 pc pm pv x (t + 1) * (1 / ((pc + t + 1) * 8)) - mean pc pm x (t + 1) * mean pc pm x (t + 1)
      = var pc pm pv x (t + 1) := by
  have h := var_sum (pm := pm) (pv := pv) x hc (t + 1)
  have hp : (pc + t + 1) * 8 ≠ 0 := by positivity
  rw [← h]; push_cast; field_simp; ring

end Cert.Stats

end
-- ==== Proof.Start.lean ====
/-
  The real numbers both programs start from, how the arguments hold them, and what the programs compute from them.
-/
module

public import proofs.«01_k».proof.Proof.Stats
public import Idealize.ShloMosaic.Lib.Pointwise
public import Idealize.ShloMosaic.Lib.IdealHost

@[expose] public section

set_option maxRecDepth 16384

noncomputable section

namespace Cert

open Idealize.ShloMosaic

/-- The real numbers the two programs start from: `x` by batch, timestep, group and lane, the prior count of each batch,
    the prior mean and variance of each group, and each lane's scale and shift. -/
structure Start where
  x : Fin 8 → ℕ → Fin 128 → Fin 8 → ℝ
  count : Fin 8 → ℝ
  mean : Fin 8 → Fin 128 → ℝ
  var : Fin 8 → Fin 128 → ℝ
  scale : Fin 128 → Fin 8 → ℝ
  shift : Fin 128 → Fin 8 → EReal
  count_nonneg : ∀ b, 0 ≤ count b
  var_nonneg : ∀ b g, 0 ≤ var b g

namespace Start

variable (S : Start)

/-- The lanes of batch `b`, group `g`, by timestep. -/
def lanes (b : Fin 8) (g : Fin 128) : ℕ → Fin 8 → ℝ := fun t j => S.x b t g j

/-- The running mean of batch `b`, group `g`, before timestep `t`. -/
def meanAt (b : Fin 8) (g : Fin 128) (t : ℕ) : ℝ := Stats.mean (S.count b) (S.mean b g) (S.lanes b g) t

/-- The running variance of batch `b`, group `g`, before timestep `t`. -/
def varAt (b : Fin 8) (g : Fin 128) (t : ℕ) : ℝ := Stats.var (S.count b) (S.mean b g) (S.var b g) (S.lanes b g) t

/-- The reciprocal standard deviation after timestep `t`, the small constant added to the variance first. -/
def rstdAt (b : Fin 8) (g : Fin 128) (t : ℕ) : EReal :=
  Ideal.rsqrt ((S.varAt b g (t + 1) : EReal) + Ideal.ofBits .f32 0x3727C5AC#32)

/-- The normalized output at timestep `t`. -/
def out (b : Fin 8) (t : ℕ) (g : Fin 128) (j : Fin 8) : EReal :=
  ((S.x b t g j : EReal) - (S.meanAt b g (t + 1) : EReal)) * S.rstdAt b g t * (S.scale g j : EReal) + S.shift g j

end Start

/-- Dividing reals by a real other than zero is real division. -/
theorem div_real (a b : ℝ) (h : b ≠ 0) : Ideal.div (a : EReal) (b : EReal) = ((a / b : ℝ) : EReal) := by
  rw [Ideal.div_coe h, ← EReal.coe_mul, mul_one_div]

/-- The float word of eight is the real eight. -/
theorem ofBits_eight : Ideal.ofBits .f32 0x41000000#32 = ((8 : ℝ) : EReal) := by
  simp [Ideal.ofBits, Ideal.ieee, -EReal.coe_mul]; norm_num

/-- The small constant added to a variance is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  positivity

/-- A sum of reals is their real sum. -/
theorem sum_real {ι : Type} (A : Finset ι) (f : ι → ℝ) : ∑ j ∈ A, (f j : EReal) = ((∑ j ∈ A, f j : ℝ) : EReal) := by
  classical
  induction A using Finset.induction_on with
  | empty => simp
  | insert a A ha ih => rw [Finset.sum_insert ha, Finset.sum_insert ha, ih, EReal.coe_add]

/-- The lane `j` of group `g` among all the lanes. -/
def lane (g : Fin 128) (j : Fin 8) : Fin 1024 := ⟨g.val * 8 + j.val, by omega⟩

/-- The seven arguments hold the numbers of `S`: the mask is one everywhere, and a lane's scale is its weight plus one. -/
structure Start.Of (S : Start) (x : FVec Ideal ⟨3, ![8, 4096, 1024]⟩ .f32) (count : IVec ⟨1, ![8]⟩ 32)
    (mean var : FVec Ideal ⟨2, ![8, 128]⟩ .f32) (weight bias : FVec Ideal ⟨1, ![1024]⟩ .f32)
    (mask : IVec ⟨2, ![8, 4096]⟩ 32) : Prop where
  x : ∀ (b : Fin 8) (s : Fin 4096) (g : Fin 128) (j : Fin 8), x (ix3 b s (lane g j)) = (S.x b s.val g j : EReal)
  count : ∀ b : Fin 8, ((count (ix1 b)).toInt : ℝ) = S.count b
  mean : ∀ (b : Fin 8) (g : Fin 128), mean (ix2 b g) = (S.mean b g : EReal)
  var : ∀ (b : Fin 8) (g : Fin 128), var (ix2 b g) = (S.var b g : EReal)
  scale : ∀ (g : Fin 128) (j : Fin 8), weight (ix1 (lane g j)) + 1 = (S.scale g j : EReal)
  shift : ∀ (g : Fin 128) (j : Fin 8), bias (ix1 (lane g j)) = S.shift g j
  mask : ∀ (b : Fin 8) (s : Fin 4096), (mask (ix2 b s)).toInt = 1

/-- The group of a lane. -/
def groupOf (i : Fin 1024) : Fin 128 := ⟨i.val / 8, by omega⟩

/-- A lane's place in its group. -/
def placeOf (i : Fin 1024) : Fin 8 := ⟨i.val % 8, by omega⟩

/-- A lane is the lane at its place in its group. -/
theorem lane_of (i : Fin 1024) : lane (groupOf i) (placeOf i) = i := Fin.ext (by simp only [lane, groupOf, placeOf]; omega)

namespace Start

variable (S : Start)

/-- The normalized output. -/
def outArray : FVec Ideal ⟨3, ![8, 4096, 1024]⟩ .f32 := fun i => S.out (i 0) (i 1).val (groupOf (i 2)) (placeOf (i 2))

/-- The counts after the last timestep. -/
def countArray : IVec ⟨1, ![8]⟩ 32 :=
  fptosi (F := Ideal) (φ := .f32) 32 (fun i => ((S.count (i 0) + (4096 : ℕ) : ℝ) : EReal))

/-- The running means after the last timestep. -/
def meanArray : FVec Ideal ⟨2, ![8, 128]⟩ .f32 := fun i => (S.meanAt (i 0) (i 1) 4096 : EReal)

/-- The running variances after the last timestep. -/
def varArray : FVec Ideal ⟨2, ![8, 128]⟩ .f32 := fun i => (S.varAt (i 0) (i 1) 4096 : EReal)

end Start

end Cert

end
-- ==== Proof.Block.lean ====
/-
  What one block of the kernel computes, in real numbers.
-/
module

public import proofs.«01_k».proof.Proof.Gen.KernelIdeal.Skeleton
public import proofs.«01_k».proof.Proof.Start
public import Idealize.ShloMosaic.Lib.Pipeline.ValueKit
public import Idealize.ShloMosaic.Lib.WordCmp

@[expose] public section

set_option maxRecDepth 16384

noncomputable section

namespace Cert.KernelIdeal.Block

open Idealize.ShloMosaic Cert.KernelIdeal Cert.KernelIdeal.Gen

/-- What a block reads: 2048 timesteps of `x`, the matrix that sums a group's lanes, and the lower triangle of ones. -/
structure Ins (X : ℕ → Fin 128 → Fin 8 → ℝ) (v3 : Vec Ideal S1x2048x1024 .f32) (v5 : Vec Ideal S1024x128 .bf16)
    (v12 : Vec Ideal S256x256 .f32) : Prop where
  x : ∀ (r : Fin 2048) (g : Fin 128) (j : Fin 8), v3 (ix3 (0 : Fin 1) r (lane g j)) = (X r.val g j : EReal)
  sums : ∀ (i : Fin 1024) (g : Fin 128), v5 (ix2 i g) = if i.val / 8 = g.val then (1 : EReal) else 0
  tri : ∀ r c : Fin 256, v12 (ix2 r c) = if c.val ≤ r.val then (1 : EReal) else 0

variable {X : ℕ → Fin 128 → Fin 8 → ℝ} {v3 : Vec Ideal S1x2048x1024 .f32} {v5 : Vec Ideal S1024x128 .bf16}
  {v12 : Vec Ideal S256x256 .f32}

/-- A sum over all the lanes is a sum over the groups of sums over the places. -/
theorem sum_lanes (f : Fin 1024 → EReal) : ∑ i, f i = ∑ g, ∑ j, f (lane g j) := by
  rw [← Fintype.sum_prod_type' (fun g j => f (lane g j))]
  exact Fintype.sum_equiv ⟨fun i => (groupOf i, placeOf i), fun p => lane p.1 p.2, lane_of, fun p => by
    refine Prod.ext (Fin.ext ?_) (Fin.ext ?_) <;> simp only [lane, groupOf, placeOf] <;> omega⟩ _ _
    fun i => by rw [Equiv.coe_fn_mk, lane_of]

/-- Of a sum of real lanes, a column of the summing matrix keeps its own group's. -/
theorem group_sum (h : Ins X v3 v5 v12) (F : Fin 1024 → EReal) (f : Fin 128 → Fin 8 → ℝ)
    (hF : ∀ g j, F (lane g j) = (f g j : EReal)) (g : Fin 128) : ∑ i, F i * v5 (ix2 i g) = ((∑ j, f g j : ℝ) : EReal) := by
  rw [sum_lanes, Finset.sum_eq_single g, ← sum_real]
  · refine Finset.sum_congr rfl fun j _ => ?_
    rw [h.sums, if_pos (by simp only [lane]; omega), mul_one, hF]
  · intro g' _ hg
    refine Finset.sum_eq_zero fun j _ => ?_
    rw [h.sums, if_neg (fun e => hg (Fin.ext (by simp only [lane] at e; omega))), mul_zero]
  · exact fun hg => absurd (Finset.mem_univ _) hg

/-- A group's sum and, 128 columns on, its sum of squares. -/
def cell (X : ℕ → Fin 128 → Fin 8 → ℝ) (r : ℕ) (k : Fin 256) : ℝ :=
  if h : k.val < 128 then ∑ j, X r ⟨k.val, h⟩ j else ∑ j, X r ⟨k.val - 128, by omega⟩ j * X r ⟨k.val - 128, by omega⟩ j

/-- The two products with the summing matrix, side by side. -/
theorem cells (h : Ins X v3 v5 v12) (r : Fin 2048) (k : Fin 256) : k0_pay9 v3 v5 (ix2 r k) = (cell X r.val k : EReal) := by
  unfold k0_pay9 k0_pay8 cell
  pointwise []
  split
  · exact group_sum h _ (X r.val) (h.x r) _
  · exact group_sum h _ (fun g j => X r.val g j * X r.val g j) (fun g j => by rw [h.x, EReal.coe_mul]) _

/-- The sum of the cells of column `k` over `n` timesteps from `m` on. -/
def run (X : ℕ → Fin 128 → Fin 8 → ℝ) (k : Fin 256) (m n : ℕ) : ℝ := ∑ s ∈ Finset.range n, cell X (m + s) k

/-- Two runs, the second starting where the first ends, add up. -/
theorem run_add (k : Fin 256) (m n : ℕ) : run X k 0 m + run X k m n = run X k 0 (m + n) := by
  simp only [run, Finset.sum_range_add, zero_add]

/-- The same, the later run written first. -/
theorem run_add' (k : Fin 256) (m n : ℕ) : run X k m n + run X k 0 m = run X k 0 (m + n) := by
  rw [add_comm, run_add]

/-- Row `r` of the lower triangle sums the first `r + 1` rows. -/
theorem tri_sum (h : Ins X v3 v5 v12) (F : Fin 256 → EReal) (k : Fin 256) (m : ℕ)
    (hF : ∀ c : Fin 256, F c = (cell X (m + c.val) k : EReal)) (r : Fin 256) :
    ∑ c, v12 (ix2 r c) * F c = (run X k m (r.val + 1) : EReal) := by
  have e : ∀ c : Fin 256, v12 (ix2 r c) * F c = if c.val ∈ Finset.range (r.val + 1) then (cell X (m + c.val) k : EReal) else 0 := by
    intro c
    rw [h.tri, hF, ite_mul, one_mul, zero_mul]
    exact if_congr (by rw [Finset.mem_range]; omega) rfl rfl
  rw [Finset.sum_congr rfl fun c _ => e c,
    Fin.sum_univ_eq_sum_range (fun n => if n ∈ Finset.range (r.val + 1) then (cell X (m + n) k : EReal) else 0) 256,
    Finset.sum_ite_mem, sum_real, Finset.inter_eq_right.2 (Finset.range_subset_range.2 (by omega))]
  rfl

/-- The prefix sums of the rows from 0 on. -/
theorem prefix_0 (h : Ins X v3 v5 v12) (r k : Fin 256) :
    k0_pay10 v3 v5 v12 (ix2 r k) = (run X k 0 (r.val + 1) : EReal) := by
  unfold k0_pay10
  pointwise []
  exact tri_sum h _ k 0 (fun c => (cells h _ k).trans (by rw [Nat.zero_add])) r

/-- The prefix sums of the rows from 256 on. -/
theorem prefix_256 (h : Ins X v3 v5 v12) (r k : Fin 256) :
    k0_pay11 v3 v5 v12 (ix2 r k) = (run X k 256 (r.val + 1) : EReal) := by
  unfold k0_pay11
  pointwise []
  exact tri_sum h _ k 256 (fun c => cells h _ k) r

/-- The prefix sums of the rows from 512 on. -/
theorem prefix_512 (h : Ins X v3 v5 v12) (r k : Fin 256) :
    k0_pay12 v3 v5 v12 (ix2 r k) = (run X k 512 (r.val + 1) : EReal) := by
  unfold k0_pay12
  pointwise []
  exact tri_sum h _ k 512 (fun c => cells h _ k) r

/-- The prefix sums of the rows from 768 on. -/
theorem prefix_768 (h : Ins X v3 v5 v12) (r k : Fin 256) :
    k0_pay13 v3 v5 v12 (ix2 r k) = (run X k 768 (r.val + 1) : EReal) := by
  unfold k0_pay13
  pointwise []
  exact tri_sum h _ k 768 (fun c => cells h _ k) r

/-- The prefix sums of the rows from 1024 on. -/
theorem prefix_1024 (h : Ins X v3 v5 v12) (r k : Fin 256) :
    k0_pay14 v3 v5 v12 (ix2 r k) = (run X k 1024 (r.val + 1) : EReal) := by
  unfold k0_pay14
  pointwise []
  exact tri_sum h _ k 1024 (fun c => cells h _ k) r

/-- The prefix sums of the rows from 1280 on. -/
theorem prefix_1280 (h : Ins X v3 v5 v12) (r k : Fin 256) :
    k0_pay15 v3 v5 v12 (ix2 r k) = (run X k 1280 (r.val + 1) : EReal) := by
  unfold k0_pay15
  pointwise []
  exact tri_sum h _ k 1280 (fun c => cells h _ k) r

/-- The prefix sums of the rows from 1536 on. -/
theorem prefix_1536 (h : Ins X v3 v5 v12) (r k : Fin 256) :
    k0_pay16 v3 v5 v12 (ix2 r k) = (run X k 1536 (r.val + 1) : EReal) := by
  unfold k0_pay16
  pointwise []
  exact tri_sum h _ k 1536 (fun c => cells h _ k) r

/-- The prefix sums of the rows from 1792 on. -/
theorem prefix_1792 (h : Ins X v3 v5 v12) (r k : Fin 256) :
    k0_pay17 v3 v5 v12 (ix2 r k) = (run X k 1792 (r.val + 1) : EReal) := by
  unfold k0_pay17
  pointwise []
  exact tri_sum h _ k 1792 (fun c => cells h _ k) r

/-- The block's prefix sums, the eight parts laid end to end. -/
theorem prefixes (h : Ins X v3 v5 v12) (r : Fin 2048) (k : Fin 256) :
    k0_pay23 (k0_pay10 v3 v5 v12) (k0_pay13 v3 v5 v12) (k0_pay14 v3 v5 v12) (k0_pay15 v3 v5 v12) (k0_pay16 v3 v5 v12)
      (k0_pay17 v3 v5 v12) (k0_pay19 v3 v5 v12) (k0_pay20 v3 v5 v12) (k0_pay21 v3 v5 v12) (k0_pay22 v3 v5 v12) (ix2 r k)
      = (run X k 0 (r.val + 1) : EReal) := by
  have hr := r.isLt
  unfold k0_pay23 k0_pay21 k0_pay19 k0_pay20 k0_pay22 k0_pay18
  pointwise []
  simp only [prefix_0 h, prefix_256 h, prefix_512 h, prefix_768 h, prefix_1024 h, prefix_1280 h, prefix_1536 h,
    prefix_1792 h, ← EReal.coe_add]
  simp only [show ((255 : Fin 256) : ℕ) = 255 from rfl, run_add, run_add', Nat.reduceAdd]
  split_ifs
  all_goals exact congrArg (fun n => ((run X k 0 n : ℝ) : EReal)) (by omega)

/-- The prefix sums' left half: the groups' sums. -/
theorem run_left (g : Fin 128) (n : ℕ) :
    run X ⟨g.val, by omega⟩ 0 n = ∑ s ∈ Finset.range n, ∑ j, X s g j := by
  refine Finset.sum_congr rfl fun s _ => ?_
  rw [Nat.zero_add, cell, dif_pos g.isLt]

/-- The prefix sums' right half: the groups' sums of squares. -/
theorem run_right (g : Fin 128) (n : ℕ) :
    run X ⟨128 + g.val, by omega⟩ 0 n = ∑ s ∈ Finset.range n, ∑ j, X s g j * X s g j := by
  refine Finset.sum_congr rfl fun s _ => ?_
  rw [Nat.zero_add, cell, dif_neg (by simp)]
  have e : (⟨128 + g.val - 128, by omega⟩ : Fin 128) = g := Fin.ext (by simp)
  simp only [e]

variable (v3 v5 v12)

/-- The running sums of a block, the carried ones added. -/
def sums (v58 : Vec Ideal S1x128 .f32) : FVec Ideal S2048x128 .f32 :=
  k0_pay24 (k0_pay10 v3 v5 v12) (k0_pay13 v3 v5 v12) (k0_pay14 v3 v5 v12) (k0_pay15 v3 v5 v12) (k0_pay16 v3 v5 v12)
    (k0_pay17 v3 v5 v12) (k0_pay19 v3 v5 v12) (k0_pay20 v3 v5 v12) (k0_pay21 v3 v5 v12) (k0_pay22 v3 v5 v12) v58

/-- The running sums of squares of a block, the carried ones added. -/
def squares (v62 : Vec Ideal S1x128 .f32) : FVec Ideal S2048x128 .f32 :=
  k0_pay25 (k0_pay10 v3 v5 v12) (k0_pay13 v3 v5 v12) (k0_pay14 v3 v5 v12) (k0_pay15 v3 v5 v12) (k0_pay16 v3 v5 v12)
    (k0_pay17 v3 v5 v12) (k0_pay19 v3 v5 v12) (k0_pay20 v3 v5 v12) (k0_pay21 v3 v5 v12) (k0_pay22 v3 v5 v12) v62

/-- The means of a block. -/
def means (v58 : Vec Ideal S1x128 .f32) (v67 : Elt Ideal .f32) : FVec Ideal S2048x128 .f32 :=
  k0_pay28 (k0_pay10 v3 v5 v12) (k0_pay13 v3 v5 v12) (k0_pay14 v3 v5 v12) (k0_pay15 v3 v5 v12) (k0_pay16 v3 v5 v12)
    (k0_pay17 v3 v5 v12) (k0_pay19 v3 v5 v12) (k0_pay20 v3 v5 v12) (k0_pay21 v3 v5 v12) (k0_pay22 v3 v5 v12) v58 v67

/-- The variances of a block. -/
def vars (v58 v62 : Vec Ideal S1x128 .f32) (v67 : Elt Ideal .f32) : FVec Ideal S2048x128 .f32 :=
  k0_pay29 (k0_pay10 v3 v5 v12) (k0_pay13 v3 v5 v12) (k0_pay14 v3 v5 v12) (k0_pay15 v3 v5 v12) (k0_pay16 v3 v5 v12)
    (k0_pay17 v3 v5 v12) (k0_pay19 v3 v5 v12) (k0_pay20 v3 v5 v12) (k0_pay21 v3 v5 v12) (k0_pay22 v3 v5 v12) v58 v62 v67

/-- The reciprocal standard deviations of a block. -/
def rstds (v58 v62 : Vec Ideal S1x128 .f32) (v67 : Elt Ideal .f32) : FVec Ideal S2048x128 .f32 :=
  k0_pay30 (k0_pay10 v3 v5 v12) (k0_pay13 v3 v5 v12) (k0_pay14 v3 v5 v12) (k0_pay15 v3 v5 v12) (k0_pay16 v3 v5 v12)
    (k0_pay17 v3 v5 v12) (k0_pay19 v3 v5 v12) (k0_pay20 v3 v5 v12) (k0_pay21 v3 v5 v12) (k0_pay22 v3 v5 v12) v58 v62 v67

variable {v3 v5 v12}

/-- The timesteps of batch `b` from `n` on. -/
def rows (S : Start) (b : Fin 8) (n : ℕ) : ℕ → Fin 128 → Fin 8 → ℝ := fun s g j => S.x b (n + s) g j

/-- What the scratches carry into the block that starts at timestep `n` of batch `b`. -/
structure Carry (S : Start) (b : Fin 8) (n : ℕ) (v58 v62 : Vec Ideal S1x128 .f32) (v67 : Elt Ideal .f32) : Prop where
  sum : ∀ g : Fin 128, v58 (ix2 (0 : Fin 1) g) = (Stats.sum1 (S.count b) (S.mean b g) (S.lanes b g) n : EReal)
  square : ∀ g : Fin 128, v62 (ix2 (0 : Fin 1) g) = (Stats.sum2 (S.count b) (S.mean b g) (S.var b g) (S.lanes b g) n : EReal)
  count : v67 = ((S.count b + n : ℝ) : EReal)

variable {S : Start} {b : Fin 8} {n : ℕ} {v58 v62 : Vec Ideal S1x128 .f32} {v67 : Elt Ideal .f32}

/-- The running sums after each timestep of the block. -/
theorem sums_read (h : Ins (rows S b n) v3 v5 v12) (hc : Carry S b n v58 v62 v67) (r : Fin 2048) (g : Fin 128) :
    sums v3 v5 v12 v58 (ix2 r g) = (Stats.sum1 (S.count b) (S.mean b g) (S.lanes b g) (n + r.val + 1) : EReal) := by
  unfold sums k0_pay24
  pointwise []
  rw [prefixes h, run_left, hc.sum, ← EReal.coe_add, Nat.add_assoc, Stats.sum1_add, add_comm]
  rfl

/-- The running sums of squares after each timestep of the block. -/
theorem squares_read (h : Ins (rows S b n) v3 v5 v12) (hc : Carry S b n v58 v62 v67) (r : Fin 2048) (g : Fin 128) :
    squares v3 v5 v12 v62 (ix2 r g)
      = (Stats.sum2 (S.count b) (S.mean b g) (S.var b g) (S.lanes b g) (n + r.val + 1) : EReal) := by
  unfold squares k0_pay25
  pointwise []
  rw [prefixes h, run_right, hc.square, ← EReal.coe_add, Nat.add_assoc, Stats.sum2_add, add_comm]
  rfl

/-- The counts after each timestep of the block. -/
theorem counts_read (hc : Carry S b n v58 v62 v67) (r : Fin 2048) :
    k0_pay26 v67 (ix2 r (0 : Fin 1)) = ((S.count b + (n + r.val : ℕ) + 1 : ℝ) : EReal) := by
  unfold k0_pay26
  pointwise []
  have e : (BitVec.ofNat 32 r.val).toInt = (r.val : ℤ) := WordCmp.toInt_ofNat_of_lt (by have := r.isLt; omega)
  rw [hc.count, show (FloatOps.sitofp .f32 (BitVec.ofNat 32 r.val) : Ideal .f32) = (((r.val : ℕ) : ℝ) : EReal) by
    show ((((BitVec.ofNat 32 r.val).toInt : ℤ) : ℝ) : EReal) = _
    rw [e, Int.cast_natCast], ← EReal.coe_one, ← EReal.coe_add, ← EReal.coe_add]
  rw [Nat.cast_add, ← add_assoc]

/-- The reciprocals of the numbers of elements seen after each timestep of the block. -/
theorem recips_read (hc : Carry S b n v58 v62 v67) (r : Fin 2048) :
    k0_pay27 v67 (ix2 r (0 : Fin 1)) = ((1 / ((S.count b + (n + r.val : ℕ) + 1) * 8) : ℝ) : EReal) := by
  have hp : (S.count b + (n + r.val : ℕ) + 1) * 8 ≠ 0 := by
    have := S.count_nonneg b
    positivity
  unfold k0_pay27
  pointwise []
  rw [counts_read hc, ofBits_eight, ← EReal.coe_mul, ← EReal.coe_one, div_real _ _ hp]

/-- The running means after each timestep of the block. -/
theorem means_read (h : Ins (rows S b n) v3 v5 v12) (hc : Carry S b n v58 v62 v67) (r : Fin 2048) (g : Fin 128) :
    means v3 v5 v12 v58 v67 (ix2 r g) = (S.meanAt b g (n + r.val + 1) : EReal) := by
  have e := sums_read h hc r g
  unfold sums at e
  unfold means k0_pay28
  pointwise []
  rw [e, recips_read hc, ← EReal.coe_mul, Stats.mean_eq _ (S.count_nonneg b)]
  rfl

/-- The running variances after each timestep of the block. -/
theorem vars_read (h : Ins (rows S b n) v3 v5 v12) (hc : Carry S b n v58 v62 v67) (r : Fin 2048) (g : Fin 128) :
    vars v3 v5 v12 v58 v62 v67 (ix2 r g) = (S.varAt b g (n + r.val + 1) : EReal) := by
  have e := squares_read h hc r g
  unfold squares at e
  have e' := means_read h hc r g
  unfold means at e'
  unfold vars k0_pay29
  pointwise []
  rw [e, e', recips_read hc, ← EReal.coe_mul, ← EReal.coe_mul, ← EReal.coe_sub]
  exact congrArg _ (Stats.var_eq _ (S.count_nonneg b) _)

/-- The reciprocal standard deviations after each timestep of the block. -/
theorem rstds_read (h : Ins (rows S b n) v3 v5 v12) (hc : Carry S b n v58 v62 v67) (r : Fin 2048) (g : Fin 128) :
    rstds v3 v5 v12 v58 v62 v67 (ix2 r g) = S.rstdAt b g (n + r.val) := by
  have e := vars_read h hc r g
  unfold vars at e
  unfold rstds k0_pay30
  pointwise []
  rw [e]
  rfl

/-- What the output reads besides: the matrix that spreads a group over its lanes, the scales and the shifts. -/
structure Affine (S : Start) (v85 : Vec Ideal S128x1024 .f32) (v86 v91 : Vec Ideal S1x1024 .f32) : Prop where
  spread : ∀ (g : Fin 128) (i : Fin 1024), v85 (ix2 g i) = if i.val / 8 = g.val then (1 : EReal) else 0
  scale : ∀ (g : Fin 128) (j : Fin 8), v86 (ix2 (0 : Fin 1) (lane g j)) = (S.scale g j : EReal)
  shift : ∀ (g : Fin 128) (j : Fin 8), v91 (ix2 (0 : Fin 1) (lane g j)) = S.shift g j

/-- A product with the scaled spreading matrix reads the lane's group. -/
theorem spread_sum {v85 : Vec Ideal S128x1024 .f32} {v86 v91 : Vec Ideal S1x1024 .f32} (h : Affine S v85 v86 v91)
    (F : Fin 128 → EReal) (g : Fin 128) (j : Fin 8) :
    ∑ x, F x * (v85 (ix2 x (lane g j)) * v86 (ix2 (0 : Fin 1) (lane g j))) = F g * (S.scale g j : EReal) := by
  rw [Finset.sum_eq_single g]
  · rw [h.spread, h.scale, if_pos (by simp only [lane]; omega), one_mul]
  · intro x _ hx
    rw [h.spread, if_neg (fun e => hx (Fin.ext (by simp only [lane] at e; omega))), zero_mul, mul_zero]
  · exact fun hg => absurd (Finset.mem_univ _) hg

/-- The reciprocal standard deviation is a real number. -/
theorem rstd_real (S : Start) (b : Fin 8) (g : Fin 128) (t : ℕ) : ∃ r : ℝ, S.rstdAt b g t = (r : EReal) := by
  obtain ⟨e, he, he'⟩ := ofBits_eps
  have hv : 0 ≤ S.varAt b g (t + 1) := Stats.var_nonneg _ (S.count_nonneg b) (S.var_nonneg b g) _
  unfold Start.rstdAt
  rw [he', ← EReal.coe_add]
  have hp : 0 < S.varAt b g (t + 1) + e := by linarith
  exact ⟨_, by rw [Ideal.rsqrt_coe, if_neg hp.not_gt, if_neg hp.ne']⟩

/-- The normalized output of the block. -/
theorem out_read (h : Ins (rows S b n) v3 v5 v12) (hc : Carry S b n v58 v62 v67) {v85 : Vec Ideal S128x1024 .f32}
    {v86 v91 : Vec Ideal S1x1024 .f32} (ha : Affine S v85 v86 v91) (r : Fin 2048) (g : Fin 128) (j : Fin 8) :
    k0_pay31 (k0_pay8 v3) (means v3 v5 v12 v58 v67) (rstds v3 v5 v12 v58 v62 v67) v85 v86 v91 (ix3 (0 : Fin 1) r (lane g j))
      = S.out b (n + r.val) g j := by
  unfold k0_pay31 k0_pay8
  pointwise []
  rw [spread_sum ha (fun x => rstds v3 v5 v12 v58 v62 v67 (ix2 r x)),
    spread_sum ha (fun x => means v3 v5 v12 v58 v67 (ix2 r x) * rstds v3 v5 v12 v58 v62 v67 (ix2 r x)),
    means_read h hc, rstds_read h hc, ha.shift, h.x]
  unfold Start.out
  obtain ⟨q, hq⟩ := rstd_real S b g (n + r.val)
  rw [hq]
  congr 1
  simp only [← EReal.coe_mul, ← EReal.coe_sub]
  congr 1
  simp only [rows]
  ring

/-- The float word of 2048 is the real 2048. -/
theorem ofBits_2048 : Ideal.ofBits .f32 0x45000000#32 = ((2048 : ℝ) : EReal) := by
  simp [Ideal.ofBits, Ideal.ieee, -EReal.coe_mul]; norm_num

/-- The block's last rows carry the running sums into the next block. -/
theorem carry_next (h : Ins (rows S b n) v3 v5 v12) (hc : Carry S b n v58 v62 v67) :
    Carry S b (n + 2048) (k0_pay32 (sums v3 v5 v12 v58)) (k0_pay33 (squares v3 v5 v12 v62)) (k0_pay34 v67) where
  sum g := by
    unfold k0_pay32
    pointwise []
    exact sums_read h hc 2047 g
  square g := by
    unfold k0_pay33
    pointwise []
    exact squares_read h hc 2047 g
  count := by
    unfold k0_pay34
    rw [hc.count]
    show ((S.count b + n : ℝ) : EReal) + Ideal.ofBits .f32 0x45000000#32 = _
    rw [ofBits_2048, ← EReal.coe_add, add_assoc]
    push_cast
    rfl

/-- What a batch's first block starts from, made of the prior count, means and variances. -/
theorem carry_first {v125 : Vec Ideal S1x1x1 .f32} {v128 v135 : Vec Ideal S1x1x128 .f32}
    (h1 : v125 (ix3 (0 : Fin 1) (0 : Fin 1) (0 : Fin 1)) = (S.count b : EReal))
    (h2 : ∀ g : Fin 128, v128 (ix3 (0 : Fin 1) (0 : Fin 1) g) = (S.mean b g : EReal))
    (h3 : ∀ g : Fin 128, v135 (ix3 (0 : Fin 1) (0 : Fin 1) g) = (S.var b g : EReal)) :
    Carry S b 0 (k0_pay6 v125 v128) (k0_pay7 v125 v128 v135) (k0_pay3 v125) where
  sum g := by
    unfold k0_pay6 k0_pay4 k0_pay5 k0_pay3
    pointwise []
    rw [h1, h2, ofBits_eight, Stats.sum1, Finset.sum_range_zero, add_zero]
    simp only [EReal.coe_mul]
  square g := by
    unfold k0_pay7 k0_pay4 k0_pay5 k0_pay3
    pointwise []
    rw [h1, h2, h3, ofBits_eight, Stats.sum2, Finset.sum_range_zero, add_zero]
    simp only [EReal.coe_mul, EReal.coe_add]
  count := by
    unfold k0_pay3
    rw [Nat.cast_zero, add_zero, ← h1]
    pointwise []

/-- What the block that starts at timestep `n` of batch `b` leaves in its four outputs and in the scratches. -/
structure Left (S : Start) (b : Fin 8) (n : ℕ) (o9 : Vec Ideal S1x2048x1024 .f32) (o10 : Vec Ideal S1x1x1 .f32)
    (o11 o12 : Vec Ideal S1x1x128 .f32) (s0 s1 : Vec Ideal S1x128 .f32) (s2 : Vec Ideal S1 .f32) : Prop where
  out : ∀ (r : Fin 2048) (g : Fin 128) (j : Fin 8), o9 (ix3 (0 : Fin 1) r (lane g j)) = S.out b (n + r.val) g j
  count : o10 (ix3 (0 : Fin 1) (0 : Fin 1) (0 : Fin 1)) = ((S.count b + (n + 2048 : ℕ) : ℝ) : EReal)
  mean : ∀ g : Fin 128, o11 (ix3 (0 : Fin 1) (0 : Fin 1) g) = (S.meanAt b g (n + 2048) : EReal)
  var : ∀ g : Fin 128, o12 (ix3 (0 : Fin 1) (0 : Fin 1) g) = (S.varAt b g (n + 2048) : EReal)
  carry : Carry S b (n + 2048) s0 s1 (s2 (ix1 (0 : Fin 1)))

/-- The block's last count. -/
theorem count_last (hc : Carry S b n v58 v62 v67) :
    k0_pay35 (k0_pay26 v67) (ix3 (0 : Fin 1) (0 : Fin 1) (0 : Fin 1)) = ((S.count b + (n + 2048 : ℕ) : ℝ) : EReal) := by
  unfold k0_pay35
  pointwise []
  refine (counts_read hc 2047).trans (congrArg _ ?_)
  push_cast
  rw [show ((2047 : Fin 2048) : ℕ) = 2047 from rfl]
  push_cast
  ring

/-- The block's last means. -/
theorem mean_last (h : Ins (rows S b n) v3 v5 v12) (hc : Carry S b n v58 v62 v67) (g : Fin 128) :
    k0_pay1 (k0_pay36 (means v3 v5 v12 v58 v67)) (ix3 (0 : Fin 1) (0 : Fin 1) g) = (S.meanAt b g (n + 2048) : EReal) := by
  unfold k0_pay1 k0_pay36
  pointwise []
  exact means_read h hc 2047 g

/-- The block's last variances. -/
theorem var_last (h : Ins (rows S b n) v3 v5 v12) (hc : Carry S b n v58 v62 v67) (g : Fin 128) :
    k0_pay2 (vars v3 v5 v12 v58 v62 v67) (ix3 (0 : Fin 1) (0 : Fin 1) g) = (S.varAt b g (n + 2048) : EReal) := by
  unfold k0_pay2
  pointwise []
  exact vars_read h hc 2047 g

end Cert.KernelIdeal.Block

end
-- ==== Proof.Outs.lean ====
/-
  What a grid point leaves in its output blocks and in the scratches, as the block's payloads over what it reads.
-/
module

public import proofs.«01_k».proof.Proof.Gen.KernelIdeal.Frame
public import proofs.«01_k».proof.Proof.Block
public import Idealize.ShloMosaic.Lib.Pipeline.ReadBack

@[expose] public section

set_option maxRecDepth 16384

noncomputable section

namespace Cert.KernelIdeal.Outs

open Idealize.ShloMosaic Idealize.ShloMosaic.TcCoe Idealize.SL.Sem Cert.KernelIdeal Cert.KernelIdeal.Gen

variable (m : (ℓ : Loc nD τ sig) → Buf (Elt Ideal) ℓ) (c : Dev nD)

/-- What the grid point `t` leaves is what the block from timestep `n` of batch `b` leaves. -/
def LeftAt (S : Start) (b : Fin 8) (n : ℕ) (t : Fin cfg0.N) : Prop :=
  Block.Left S b n (outsAt0 m c t.val t.isLt).1 (outsAt0 m c t.val t.isLt).2.1 (outsAt0 m c t.val t.isLt).2.2.1
    (outsAt0 m c t.val t.isLt).2.2.2.1 (outsAt0 m c t.val t.isLt).2.2.2.2.1 (outsAt0 m c t.val t.isLt).2.2.2.2.2.1
    (outsAt0 m c t.val t.isLt).2.2.2.2.2.2

variable {S : Start} {b : Fin 8} {n : ℕ} {t : Fin cfg0.N}

/-- A batch's first block sets the scratches from the prior count, means and variances. -/
theorem left_A (h : t.val % 2 = 0) (hi : Block.Ins (Block.rows S b n) (iblk m c 0 t) (iblk m c 6 t) (iblk m c 8 t))
    (ha : Block.Affine S (iblk m c 7 t) (iblk m c 4 t) (iblk m c 5 t))
    (hc : Block.Carry S b n (k0_pay6 (F := Ideal) (iblk m c 1 t) (iblk m c 2 t))
      (k0_pay7 (F := Ideal) (iblk m c 1 t) (iblk m c 2 t) (iblk m c 3 t)) (k0_pay3 (F := Ideal) (iblk m c 1 t))) :
    LeftAt m c S b n t := by
  unfold LeftAt
  rw [outsAt0_A m c t h]
  exact
    { out := fun r g j => by frame_out; exact Block.out_read hi hc ha r g j
      count := by frame_out; exact Block.count_last hc
      mean := fun g => by frame_out; exact Block.mean_last hi hc g
      var := fun g => by frame_out; exact Block.var_last hi hc g
      carry :=
        { sum := fun g => by frame_out; exact (Block.carry_next hi hc).sum g
          square := fun g => by frame_out; exact (Block.carry_next hi hc).square g
          count := by frame_out; exact (Block.carry_next hi hc).count } }

/-- A batch's second block takes up the scratches where the first left them. -/
theorem left_B (h : ¬t.val % 2 = 0) (hi : Block.Ins (Block.rows S b n) (iblk m c 0 t) (iblk m c 6 t) (iblk m c 8 t))
    (ha : Block.Affine S (iblk m c 7 t) (iblk m c 4 t) (iblk m c 5 t))
    (hc : Block.Carry S b n (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      ((outsAt0 m c (t.val - 1) (Nat.lt_of_le_of_lt (Nat.sub_le _ _) t.isLt)).2.2.2.2.2.2 (ix1 (0 : Fin 1)))) :
    LeftAt m c S b n t := by
  unfold LeftAt
  rw [outsAt0_B m c t h]
  generalize (outsAt0 m c (t.val - 1) (Nat.lt_of_le_of_lt (Nat.sub_le _ _) t.isLt)) = p at hc ⊢
  obtain ⟨o9, o10, o11, o12, s0, s1, s2⟩ := p
  obtain ⟨v, rfl⟩ : ∃ v : Elt Ideal .f32, s2 = fun _ => v :=
    ⟨s2 (ix1 (0 : Fin 1)), by funext i; idx_vars i; rw [Subsingleton.elim i0 (0 : Fin 1)]⟩
  dsimp only at hc ⊢
  exact
    { out := fun r g j => by frame_out; simp only [read_unread_whole]; exact Block.out_read hi hc ha r g j
      count := by frame_out; simp only [read_unread_whole]; exact Block.count_last hc
      mean := fun g => by frame_out; simp only [read_unread_whole]; exact Block.mean_last hi hc g
      var := fun g => by frame_out; simp only [read_unread_whole]; exact Block.var_last hi hc g
      carry :=
        { sum := fun g => by frame_out; simp only [read_unread_whole]; exact (Block.carry_next hi hc).sum g
          square := fun g => by frame_out; simp only [read_unread_whole]; exact (Block.carry_next hi hc).square g
          count := by frame_out; simp only [read_unread_whole]; exact (Block.carry_next hi hc).count } }

end Cert.KernelIdeal.Outs

end
-- ==== Proof.Reads.lean ====
/-
  What the kernel's launch and its grid points read: the constant tables as the numbers zero and one, the arguments the
  launch reshapes, and each point's blocks of them.
-/
module

public import proofs.«01_k».proof.Proof.TableGroups
public import proofs.«01_k».proof.Proof.TableLower
public import proofs.«01_k».proof.Proof.Outs
public import Idealize.ShloMosaic.Lib.Claim
public import Idealize.ShloMosaic.Lib.WordCmp

@[expose] public section

set_option maxRecDepth 16384

noncomputable section

namespace Cert.KernelIdeal.Reads

open Idealize.ShloMosaic Idealize.ShloMosaic.TcCoe Idealize.SL.Sem Cert.KernelIdeal Cert.KernelIdeal.Gen

variable (m : (ℓ : Loc nD τ sig) → Buf (Elt Ideal) ℓ) (c : Dev nD)

/-- A table's entry as a number: one where its condition holds, zero elsewhere. -/
theorem ofBits_bitOf (p : Bool) : Ideal.ofBits .f32 (Tables.bitOf p) = if p then (1 : EReal) else 0 := by
  cases p
  · exact Ideal.ofBits_zero .f32
  · exact Ideal.ofBits_one_f32

/-- The table that sums 8 neighbouring lanes holds one exactly where the lane lies in the group. -/
theorem groups_read (r : Fin 1024) (g : Fin 128) :
    V m c main_v4 (ix2 r g) = if r.val / 8 = g.val then (1 : EReal) else 0 := by
  entry_read
  pointwise []
  have e : (S1024x128.rowMajor (ix2 r g)).val = r.val * 128 + g.val := Shape.rowMajor_val_two _
  have hr := r.isLt
  have hg := g.isLt
  show Ideal.ofBits .f32 (lit0t (S1024x128.rowMajor (ix2 r g)).val) = _
  rw [e, Tables.groups _ (by omega), Tables.groupRow, ofBits_bitOf, show (r.val * 128 + g.val) / 128 = r.val by omega,
    show (r.val * 128 + g.val) % 128 = g.val by omega]
  simp only [Nat.beq_eq]

/-- The table that spreads a group's value holds one exactly where the lane lies in the group. -/
theorem spread_read (g : Fin 128) (i : Fin 1024) :
    V m c main_v12 (ix2 g i) = if i.val / 8 = g.val then (1 : EReal) else 0 := by
  simp only [V, V0, hostOps0, List.flatten_cons, List.flatten_nil, List.append_nil, StableHlo.after_cons, StableHlo.after_nil]
  after_results_simp
  pointwise []
  have hg := g.isLt
  have hi := i.isLt
  rw [show IntOp.addi (BitVec.ofNat 32 g.val) 0#32 = BitVec.ofNat 32 g.val from BitVec.add_zero _,
    WordCmp.cmpi_eq_ofNat (by omega) (by omega)]
  by_cases h : i.val / 8 = g.val
  · rw [if_pos h, decide_eq_true h.symm]
    show ((((1#1 : BitVec 1).toNat : ℕ) : ℝ) : EReal) = 1
    norm_num
  · rw [if_neg h, decide_eq_false fun e => h e.symm]
    show ((((0#1 : BitVec 1).toNat : ℕ) : ℝ) : EReal) = 0
    norm_num

/-- The table of running sums holds one exactly where the column is at most the row. -/
theorem lower_read (r k : Fin 256) :
    V m c main_cst_0 (ix2 r k) = if k.val ≤ r.val then (1 : EReal) else 0 := by
  entry_read
  have e : (S256x256.rowMajor (ix2 r k)).val = r.val * 256 + k.val := Shape.rowMajor_val_two _
  have hr := r.isLt
  have hk := k.isLt
  show Ideal.ofBits .f32 (lit1t (S256x256.rowMajor (ix2 r k)).val) = _
  rw [e, Tables.lower _ (by omega), Tables.lowerRow, ofBits_bitOf,
    show (128 * ((r.val * 256 + k.val) / 128 % 2) + (r.val * 256 + k.val) % 128) = k.val by omega,
    show (r.val * 256 + k.val) / 128 / 2 = r.val by omega]
  simp only [Nat.ble_eq]

/-- The scale is the weight plus one. -/
theorem scale_read (i : Fin 1024) :
    V m c main_v15 (ix2 (0 : Fin 1) i) = (show EReal from m ((c : Thread nD τ).loc main_arg4) (ix1 i)) + 1 := by
  simp only [V, V0, hostOps0, List.flatten_cons, List.flatten_nil, List.append_nil, StableHlo.after_cons, StableHlo.after_nil]
  after_results_simp
  pointwise []

/-- The shift is the bias. -/
theorem shift_read (i : Fin 1024) :
    V m c main_v16 (ix2 (0 : Fin 1) i) = (m ((c : Thread nD τ).loc main_arg5) : FVec Ideal S1024 .f32) (ix1 i) := by
  simp only [V, V0, hostOps0, List.flatten_cons, List.flatten_nil, List.append_nil, StableHlo.after_cons, StableHlo.after_nil]
  after_results_simp
  pointwise []

/-- The prior count, as a number. -/
theorem count_read (b : Fin 8) : V m c main_v1 (ix3 b (0 : Fin 1) (0 : Fin 1))
    = ((((m ((c : Thread nD τ).loc main_arg1) : IVec S8 32) (ix1 b)).toInt : ℝ) : EReal) := by
  simp only [V, V0, hostOps0, List.flatten_cons, List.flatten_nil, List.append_nil, StableHlo.after_cons, StableHlo.after_nil]
  after_results_simp
  pointwise []
  rfl

/-- The prior means. -/
theorem mean_read (b : Fin 8) (g : Fin 128) : V m c main_v2 (ix3 b (0 : Fin 1) g)
    = (m ((c : Thread nD τ).loc main_arg2) : FVec Ideal S8x128 .f32) (ix2 b g) := by
  simp only [V, V0, hostOps0, List.flatten_cons, List.flatten_nil, List.append_nil, StableHlo.after_cons, StableHlo.after_nil]
  after_results_simp
  pointwise []

/-- The prior variances. -/
theorem var_read (b : Fin 8) (g : Fin 128) : V m c main_v3 (ix3 b (0 : Fin 1) g)
    = (m ((c : Thread nD τ).loc main_arg3) : FVec Ideal S8x128 .f32) (ix2 b g) := by
  simp only [V, V0, hostOps0, List.flatten_cons, List.flatten_nil, List.append_nil, StableHlo.after_cons, StableHlo.after_nil]
  after_results_simp
  pointwise []

/-- Every window's block index: point `t` is block `t % 2` of batch `t / 2`. -/
theorem idx : ∀ t : Fin cfg0.N,
    win0_0.index t = ![t.val / 2, t.val % 2, 0] ∧ win0_1.index t = ![t.val / 2, 0, 0]
    ∧ win0_2.index t = ![t.val / 2, 0, 0] ∧ win0_3.index t = ![t.val / 2, 0, 0]
    ∧ win0_4.index t = ![0, 0] ∧ win0_5.index t = ![0, 0] ∧ win0_6.index t = ![0, 0] ∧ win0_7.index t = ![0, 0]
    ∧ win0_8.index t = ![0, 0] ∧ win0_9.index t = ![t.val / 2, t.val % 2, 0] ∧ win0_10.index t = ![t.val / 2, 0, 0]
    ∧ win0_11.index t = ![t.val / 2, 0, 0] ∧ win0_12.index t = ![t.val / 2, 0, 0] :=
  (by decide +kernel : ∀ t : Fin grid0.N, _)

variable {S : Start} {b : Fin 8} {t : Fin cfg0.N}

/-- The batch of a grid point. -/
def batch (t : Fin cfg0.N) : Fin 8 := ⟨t.val / 2, by have := t.isLt; have : cfg0.N = 16 := N_0; omega⟩

/-- The first timestep of a grid point's block. -/
def first (t : Fin cfg0.N) : ℕ := t.val % 2 * 2048

/-- The arguments at device `c`, holding the numbers of `S`. -/
abbrev Holds (S : Start) : Prop :=
  S.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The block of the input and the tables, as a point finds them. -/
theorem ins (h : Holds m c S) (t : Fin cfg0.N) :
    Block.Ins (Block.rows S (batch t) (first t)) (iblk m c 0 t) (iblk m c 6 t) (iblk m c 8 t) where
  x r g j := by
    have hr := r.isLt
    have e : iblk m c 0 t (ix3 (0 : Fin 1) r (lane g j))
        = m ((c : Thread nD τ).loc main_arg0) (ix3 (batch t) (⟨first t + r.val, by unfold first; omega⟩ : Fin 4096) (lane g j)) := by
      unfold batch first
      blk_ext [iblk, V, idx t]
    exact e.trans (h.x _ _ _ _)
  sums i g := by
    have e : iblk m c 6 t (ix2 i g) = V m c main_v4 (ix2 i g) := by blk_ext [iblk, idx t]
    exact e.trans (groups_read m c i g)
  tri r k := by
    have e : iblk m c 8 t (ix2 r k) = V m c main_cst_0 (ix2 r k) := by blk_ext [iblk, idx t]
    exact e.trans (lower_read m c r k)

/-- The scale, the shift and the spreading table, as a point finds them. -/
theorem affine (h : Holds m c S) (t : Fin cfg0.N) : Block.Affine S (iblk m c 7 t) (iblk m c 4 t) (iblk m c 5 t) where
  spread g i := by
    have e : iblk m c 7 t (ix2 g i) = V m c main_v12 (ix2 g i) := by blk_ext [iblk, idx t]
    exact e.trans (spread_read m c g i)
  scale g j := by
    have e : iblk m c 4 t (ix2 (0 : Fin 1) (lane g j)) = V m c main_v15 (ix2 (0 : Fin 1) (lane g j)) := by
      blk_ext [iblk, idx t]
    exact e.trans ((scale_read m c _).trans (h.scale g j))
  shift g j := by
    have e : iblk m c 5 t (ix2 (0 : Fin 1) (lane g j)) = V m c main_v16 (ix2 (0 : Fin 1) (lane g j)) := by
      blk_ext [iblk, idx t]
    exact e.trans ((shift_read m c _).trans (h.shift g j))

/-- The prior count, as a point finds it. -/
theorem count (h : Holds m c S) (t : Fin cfg0.N) :
    iblk m c 1 t (ix3 (0 : Fin 1) (0 : Fin 1) (0 : Fin 1)) = (S.count (batch t) : EReal) := by
  have e : iblk m c 1 t (ix3 (0 : Fin 1) (0 : Fin 1) (0 : Fin 1))
      = V m c main_v1 (ix3 (batch t) (0 : Fin 1) (0 : Fin 1)) := by
    unfold batch
    blk_ext [iblk, idx t]
  refine e.trans ((count_read m c _).trans ?_)
  rw [← h.count]

/-- The prior means, as a point finds them. -/
theorem mean (h : Holds m c S) (t : Fin cfg0.N) (g : Fin 128) :
    iblk m c 2 t (ix3 (0 : Fin 1) (0 : Fin 1) g) = (S.mean (batch t) g : EReal) := by
  have e : iblk m c 2 t (ix3 (0 : Fin 1) (0 : Fin 1) g) = V m c main_v2 (ix3 (batch t) (0 : Fin 1) g) := by
    unfold batch
    blk_ext [iblk, idx t]
  exact e.trans ((mean_read m c _ _).trans (h.mean _ _))

/-- The prior variances, as a point finds them. -/
theorem var (h : Holds m c S) (t : Fin cfg0.N) (g : Fin 128) :
    iblk m c 3 t (ix3 (0 : Fin 1) (0 : Fin 1) g) = (S.var (batch t) g : EReal) := by
  have e : iblk m c 3 t (ix3 (0 : Fin 1) (0 : Fin 1) g) = V m c main_v3 (ix3 (batch t) (0 : Fin 1) g) := by
    unfold batch
    blk_ext [iblk, idx t]
  exact e.trans ((var_read m c _ _).trans (h.var _ _))

/-- What every grid point leaves. -/
theorem left (h : Holds m c S) (t : Fin cfg0.N) : Outs.LeftAt m c S (batch t) (first t) t := by
  by_cases h0 : t.val % 2 = 0
  · refine Outs.left_A m c h0 (ins m c h t) (affine m c h t) ?_
    rw [first, h0, Nat.zero_mul]
    exact Block.carry_first (count m c h t) (mean m c h t) (var m c h t)
  · refine Outs.left_B m c h0 (ins m c h t) (affine m c h t) ?_
    have hp : (⟨t.val - 1, Nat.lt_of_le_of_lt (Nat.sub_le _ _) t.isLt⟩ : Fin cfg0.N).val % 2 = 0 := by dsimp only; omega
    have hl := Outs.left_A m c hp (ins m c h _) (affine m c h _) (by
      rw [first, hp, Nat.zero_mul]
      exact Block.carry_first (count m c h _) (mean m c h _) (var m c h _))
    have hb : batch ⟨t.val - 1, Nat.lt_of_le_of_lt (Nat.sub_le _ _) t.isLt⟩ = batch t := Fin.ext (by simp only [batch]; omega)
    have hf : first ⟨t.val - 1, Nat.lt_of_le_of_lt (Nat.sub_le _ _) t.isLt⟩ + 2048 = first t := by
      rw [first, hp, first]; omega
    have hc := hl.carry
    rw [hb, hf] at hc
    exact hc

end Cert.KernelIdeal.Reads

end
-- ==== Proof.Value.lean ====
/-
  The kernel's four results: the arrays its grid writes, and the counts, means and variances the last operations reshape.
-/
module

public import proofs.«01_k».proof.Proof.Reads
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD) {S : Start}

/-- The output array: every block is written once, at its own timesteps. -/
theorem out (h : Reads.Holds m c S) : (dats m 0 c).arrAt 9 (cfgs 0).N = S.outArray := by
  refine (dats m 0 c).arrAt_eq_of_covers 9 _ (by decide +kernel) fun t _ y => ?_
  have hl := (Reads.left m c h t).out
  blk_simp
  rw [after0_9]
  idx_vars y
  have hy := y1.isLt
  have e : ((View.whole main_v17_0).slice (win0_9.rect t)).emb (ix3 y0 y1 y2)
      = ix3 (Reads.batch t) (⟨Reads.first t + y1.val, by unfold Reads.first; omega⟩ : Fin 4096) y2 := by
    unfold Reads.batch Reads.first
    blk_ext [Reads.idx t]
  rw [e, Subsingleton.elim y0 (0 : Fin 1)]
  have hr := hl y1 (groupOf y2) (placeOf y2)
  rw [lane_of] at hr
  exact hr

/-- The counts: each batch's second block writes the batch's. -/
theorem count (h : Reads.Holds m c S) : (dats m 0 c).arrAt 10 (cfgs 0).N
    = fun i : S8x1x1.Idx => ((S.count (i 0) + (4096 : ℕ) : ℝ) : EReal) := by
  refine (dats m 0 c).arrAt_eq_of_covers 10 _ (by decide +kernel) fun t hf y => ?_
  have hl := (Reads.left m c h t).count
  rw [Reads.first, (flush0_10 t).mp hf] at hl
  blk_simp
  rw [after0_10]
  idx_vars y
  have e : ((View.whole main_v17_1).slice (win0_10.rect t)).emb (ix3 y0 y1 y2)
      = ix3 (Reads.batch t) (0 : Fin 1) (0 : Fin 1) := by
    unfold Reads.batch
    blk_ext [Reads.idx t]
  rw [e, Subsingleton.elim y0 (0 : Fin 1), Subsingleton.elim y1 (0 : Fin 1), Subsingleton.elim y2 (0 : Fin 1)]
  exact hl

/-- The means: each batch's second block writes the batch's. -/
theorem mean (h : Reads.Holds m c S) : (dats m 0 c).arrAt 11 (cfgs 0).N
    = fun i : S8x1x128.Idx => (S.meanAt (i 0) (i 2) 4096 : EReal) := by
  refine (dats m 0 c).arrAt_eq_of_covers 11 _ (by decide +kernel) fun t hf y => ?_
  have hl := (Reads.left m c h t).mean
  rw [Reads.first, (flush0_11 t).mp hf] at hl
  blk_simp
  rw [after0_11]
  idx_vars y
  have e : ((View.whole main_v17_2).slice (win0_11.rect t)).emb (ix3 y0 y1 y2) = ix3 (Reads.batch t) (0 : Fin 1) y2 := by
    unfold Reads.batch
    blk_ext [Reads.idx t]
  rw [e, Subsingleton.elim y0 (0 : Fin 1), Subsingleton.elim y1 (0 : Fin 1)]
  exact hl y2

/-- The variances: each batch's second block writes the batch's. -/
theorem var (h : Reads.Holds m c S) : (dats m 0 c).arrAt 12 (cfgs 0).N
    = fun i : S8x1x128.Idx => (S.varAt (i 0) (i 2) 4096 : EReal) := by
  refine (dats m 0 c).arrAt_eq_of_covers 12 _ (by decide +kernel) fun t hf y => ?_
  have hl := (Reads.left m c h t).var
  rw [Reads.first, (flush0_12 t).mp hf] at hl
  blk_simp
  rw [after0_12]
  idx_vars y
  have e : ((View.whole main_v17_3).slice (win0_12.rect t)).emb (ix3 y0 y1 y2) = ix3 (Reads.batch t) (0 : Fin 1) y2 := by
    unfold Reads.batch
    blk_ext [Reads.idx t]
  rw [e, Subsingleton.elim y0 (0 : Fin 1), Subsingleton.elim y1 (0 : Fin 1)]
  exact hl y2

/-- The buffers after the grid. -/
abbrev after : Valuation τ sig (Elt Ideal) :=
  Pipeline.withArrays (cfgs 0).spec c (V0 m c) fun w => (dats m 0 c).arrAt w (cfgs 0).N

/-- The counts, reshaped and turned into integers. -/
theorem count_tail (h : Reads.Holds m c S) :
    Pipeline.afterTail₀ cfgs (dats m) 0 (V0 m) [hostOps1] c main_v19 = S.countArray := by
  have e : after m c (Proc.devRef .tc main_v17_1) = _ :=
    (Pipeline.withArrays_arr spec0 launch0.win.arr_inj c (V0 m c) _ 10).trans (count m c h)
  unfold Pipeline.afterTail₀
  simp only [hostOps1, List.flatten_cons, List.flatten_nil, List.append_nil, StableHlo.after_cons, StableHlo.after_nil]
  after_results_simp
  unfold after at e
  rw [e]
  unfold Start.countArray
  refine congrArg (fptosi (F := Ideal) (φ := .f32) 32) (funext fun i => ?_)
  idx_vars i
  pointwise []

/-- The means, reshaped. -/
theorem mean_tail (h : Reads.Holds m c S) :
    Pipeline.afterTail₀ cfgs (dats m) 0 (V0 m) [hostOps1] c main_v20 = S.meanArray := by
  have e : after m c (Proc.devRef .tc main_v17_2) = _ :=
    (Pipeline.withArrays_arr spec0 launch0.win.arr_inj c (V0 m c) _ 11).trans (mean m c h)
  unfold Pipeline.afterTail₀
  simp only [hostOps1, List.flatten_cons, List.flatten_nil, List.append_nil, StableHlo.after_cons, StableHlo.after_nil]
  after_results_simp
  unfold after at e
  rw [e]
  funext i
  idx_vars i
  pointwise []
  rfl

/-- The variances, reshaped. -/
theorem var_tail (h : Reads.Holds m c S) :
    Pipeline.afterTail₀ cfgs (dats m) 0 (V0 m) [hostOps1] c main_v21 = S.varArray := by
  have e : after m c (Proc.devRef .tc main_v17_3) = _ :=
    (Pipeline.withArrays_arr spec0 launch0.win.arr_inj c (V0 m c) _ 12).trans (var m c h)
  unfold Pipeline.afterTail₀
  simp only [hostOps1, List.flatten_cons, List.flatten_nil, List.append_nil, StableHlo.after_cons, StableHlo.after_nil]
  after_results_simp
  unfold after at e
  rw [e]
  funext i
  idx_vars i
  pointwise []
  rfl

/-- The run: the four results are the start's arrays and the arguments end as they began. -/
theorem run (g : Dev nD → PrngReg) (S : Dev nD → Start) (h : ∀ c, Reads.Holds m c (S c)) :
    θ_run defs (onTc (τ := τ) (main (F := Ideal))) ⟨m, fun _ => 0, g⟩ (fun r => ∀ c : Dev nD,
      (r.2.mem ((c.tc : Thread nD τ).loc main_v17_0) = (S c).outArray
        ∧ r.2.mem ((c.tc : Thread nD τ).loc main_v19) = (S c).countArray
        ∧ r.2.mem ((c.tc : Thread nD τ).loc main_v20) = (S c).meanArray
        ∧ r.2.mem ((c.tc : Thread nD τ).loc main_v21) = (S c).varArray)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c =>
    ⟨⟨((hr.1 c).1 9).trans (out m c (h c)),
      ((hr.1 c).2 main_v19 (Pipeline.mem_restRefs_of main_v19 (by decide) (by decide))).trans (count_tail m c (h c)),
      ((hr.1 c).2 main_v20 (Pipeline.mem_restRefs_of main_v20 (by decide) (by decide))).trans (mean_tail m c (h c)),
      ((hr.1 c).2 main_v21 (Pipeline.mem_restRefs_of main_v21 (by decide) (by decide))).trans (var_tail m c (h c))⟩,
      hr.2 c⟩)
    (θ_run_and (run_main m g) (unchanged m g))

end Cert.KernelIdeal.Value

end
-- ==== Proof.RefTrip.lean ====
/-
  One trip of the reference's loop over the timesteps, over the reals. `Inv V t` says what the carried arrays hold
  before trip `t`: the count, the running mean and the running variance of `Stats`, and the rows of the output written
  so far; a trip carries `Inv` from `t` to `t + 1`.
-/
module

public import proofs.«01_k».proof.Proof.Gen.ReferenceIdeal.Run
public import proofs.«01_k».proof.Proof.Start
public import Idealize.ShloMosaic.Lib.DynamicIndex
public import Idealize.ShloMosaic.Lib.WordCmp

@[expose] public section

set_option maxRecDepth 16384

noncomputable section

namespace Cert.RefTrip

open Cert.ReferenceIdeal Cert.ReferenceIdeal.Gen Cert.ReferenceIdeal.Value
open Idealize.ShloMosaic Idealize.ShloMosaic.TcCoe Idealize.ShloMosaic.StableHlo Idealize.SL.Sem

/-- What the loop's arrays hold before trip `t`. -/
structure Inv (S : Start) (V : Valuation τ sig (Elt Ideal)) (t : ℕ) : Prop where
  x : ∀ (s : Fin 4096) (b : Fin 8) (g : Fin 128) (j : Fin 8),
    (V (Proc.devRef .tc main_v10_0) : FVec Ideal S4096x8x128x8 .f32) (ix4 s b g j) = (S.x b s.val g j : EReal)
  mask : ∀ (s : Fin 4096) (b : Fin 8), (V (Proc.devRef .tc main_v10_1) : FVec Ideal S4096x8 .f32) (ix2 s b) = (1 : EReal)
  eight : ∀ i, (V (Proc.devRef .tc main_v10_2) : FVec Ideal S_ .f32) i = ((8 : ℝ) : EReal)
  scale : ∀ (g : Fin 128) (j : Fin 8),
    (V (Proc.devRef .tc main_v10_3) : FVec Ideal S128x8 .f32) (ix2 g j) = (S.scale g j : EReal)
  shift : ∀ (g : Fin 128) (j : Fin 8),
    (V (Proc.devRef .tc main_v10_4) : FVec Ideal S128x8 .f32) (ix2 g j) = S.shift g j
  trip : V (Proc.devRef .tc main_v10_5) = constantI S_ 32 (BitVec.ofNat 32 t)
  count : ∀ b : Fin 8, (V (Proc.devRef .tc main_v10_6) : FVec Ideal S8 .f32) (ix1 b) = ((S.count b + t : ℝ) : EReal)
  mean : ∀ (b : Fin 8) (g : Fin 128),
    (V (Proc.devRef .tc main_v10_7) : FVec Ideal S8x128 .f32) (ix2 b g) = (S.meanAt b g t : EReal)
  var : ∀ (b : Fin 8) (g : Fin 128),
    (V (Proc.devRef .tc main_v10_8) : FVec Ideal S8x128 .f32) (ix2 b g) = (S.varAt b g t : EReal)
  out : ∀ (s : Fin 4096) (b : Fin 8) (g : Fin 128) (j : Fin 8), s.val < t →
    (V (Proc.devRef .tc main_v10_9) : FVec Ideal S4096x8x128x8 .f32) (ix4 s b g j) = S.out b s.val g j

variable {S : Start} {V : Valuation τ sig (Elt Ideal)} {t : ℕ}

/-- The start of trip `t`'s row in a four-axis array, read as integers. -/
theorem start4 (ht : t < 4096) : ∀ a : Fin 4, BitVec.toInt ((![constantI S_ 32 (BitVec.ofNat 32 t), constantI S_ 32 0#32,
    constantI S_ 32 0#32, constantI S_ 32 0#32] : Fin 4 → IVec S_ 32) a (Shape.Idx.first h_S_))
      = ((![t, 0, 0, 0] : Fin 4 → ℕ) a : ℤ) := by
  have e := toInt_ofNat_of_lt (k := t) (by omega)
  intro a
  fin_cases a
  · exact e
  all_goals rfl

/-- The start of trip `t`'s row in a two-axis array, read as integers. -/
theorem start2 (ht : t < 4096) : ∀ a : Fin 2, BitVec.toInt ((![constantI S_ 32 (BitVec.ofNat 32 t), constantI S_ 32 0#32]
    : Fin 2 → IVec S_ 32) a (Shape.Idx.first h_S_)) = ((![t, 0] : Fin 2 → ℕ) a : ℤ) := by
  have e := toInt_ofNat_of_lt (k := t) (by omega)
  intro a
  fin_cases a
  · exact e
  · rfl

/-- Row `t` lies inside the four-axis arrays. -/
theorem fits4 (ht : t < 4096) : S4096x8x128x8.Slices ![t, 0, 0, 0] S1x8x128x8 :=
  ⟨rfl, fun a => by fin_cases a <;> simp <;> omega⟩

/-- Row `t` lies inside the mask. -/
theorem fits2 (ht : t < 4096) : S4096x8.Slices ![t, 0] S1x8 :=
  ⟨rfl, fun a => by fin_cases a <;> simp <;> omega⟩

/-- Trip `t` reads timestep `t` of `x`. -/
theorem x_read (h : Inv S V t) (ht : t < 4096) (b : Fin 8) (g : Fin 128) (j : Fin 8) :
    res_main_while0b_v14 V (ix3 b g j : S8x128x8.Idx) = (S.x b t g j : EReal) := by
  unfold res_main_while0b_v14
  rw [h.trip, Host.dynamicSlice_eq_extractStridedSlice _ _ _ ![t, 0, 0, 0] _
    (fits4 ht) (by exact start4 ht)]
  pointwise []
  exact h.x ⟨t, ht⟩ b g j

/-- Trip `t` reads timestep `t` of the mask, which is one. -/
theorem mask_read (h : Inv S V t) (ht : t < 4096) (b : Fin 8)  :
    res_main_while0b_v15 V (ix1 b : S8.Idx) = (1 : EReal) := by
  unfold res_main_while0b_v15
  rw [h.trip, Host.dynamicSlice_eq_extractStridedSlice _ _ _ ![t, 0] _
    (fits2 ht) (by exact start2 ht)]
  pointwise []
  exact h.mask ⟨t, ht⟩ b

/-- The trip's group means are `Stats.mu`. -/
theorem mu_read (h : Inv S V t) (ht : t < 4096) (b : Fin 8) (g : Fin 128) :
    res_main_while0b_v18 V (ix2 b g : S8x128.Idx) = (Stats.mu (S.lanes b g) t : EReal) := by
  have hx := x_read h ht b g
  unfold res_main_while0b_v18
  pointwise []
  simp only [hx, ofBits_eight, sum_real]
  rw [div_real _ _ (by norm_num)]
  rfl

/-- The running mean's update over the extended reals is `Stats.mean`'s, all its terms being real. -/
theorem mean_real (c m u : ℝ) (hc : c * 8 + 8 ≠ 0) :
    (m : EReal) + 1 * ((m : EReal) + ((u : EReal) - m) * Ideal.div ((8 : ℝ) : EReal) ((c : EReal) * ((8 : ℝ) : EReal)
      + ((8 : ℝ) : EReal)) - m) = ((m + (u - m) * (8 / (c * 8 + 8)) : ℝ) : EReal) := by
  rw [one_mul]
  simp only [← EReal.coe_mul, ← EReal.coe_add]
  rw [div_real _ _ hc]
  simp only [← EReal.coe_mul, ← EReal.coe_add, ← EReal.coe_sub]
  congr 1; ring

/-- The running variance's update over the extended reals is `Stats.var`'s, all its terms being real. -/
theorem var_real (c v d q : ℝ) (hc : c * 8 + 8 ≠ 0) :
    (v : EReal) + 1 * (Ideal.div ((v : EReal) * ((c : EReal) * ((8 : ℝ) : EReal)) + (q : EReal)
        + (d : EReal) * (d : EReal) * Ideal.div ((c : EReal) * ((8 : ℝ) : EReal) * ((8 : ℝ) : EReal))
          ((c : EReal) * ((8 : ℝ) : EReal) + ((8 : ℝ) : EReal)))
        ((c : EReal) * ((8 : ℝ) : EReal) + ((8 : ℝ) : EReal)) - v)
      = (((v * (c * 8) + q + d * d * (c * 8 * 8 / (c * 8 + 8))) / (c * 8 + 8) : ℝ) : EReal) := by
  rw [one_mul]
  simp only [← EReal.coe_mul, ← EReal.coe_add]
  rw [div_real _ _ hc]
  simp only [← EReal.coe_mul, ← EReal.coe_add]
  rw [div_real _ _ hc]
  simp only [← EReal.coe_mul, ← EReal.coe_add, ← EReal.coe_sub]
  congr 1; ring

/-- The carried means after the trip. -/
theorem mean_read (h : Inv S V t) (ht : t < 4096) (b : Fin 8) (g : Fin 128) :
    res_main_while0b_v54 V (ix2 b g : S8x128.Idx) = (S.meanAt b g (t + 1) : EReal) := by
  have hc := S.count_nonneg b
  unfold res_main_while0b_v54 res_main_while0b_v50 res_main_while0b_v28 res_main_while0b_v27 res_main_while0b_v25
  pointwise []
  rw [mu_read h ht b g, mask_read h ht b, h.mean b g, h.count b, h.eight]
  exact mean_real _ _ _ (by positivity)

/-- The carried variances after the trip. -/
theorem var_read (h : Inv S V t) (ht : t < 4096) (b : Fin 8) (g : Fin 128) :
    res_main_while0b_v58 V (ix2 b g : S8x128.Idx) = (S.varAt b g (t + 1) : EReal) := by
  have hc := S.count_nonneg b
  have hx := x_read h ht b g
  unfold res_main_while0b_v58 res_main_while0b_v50 res_main_while0b_v28 res_main_while0b_v27 res_main_while0b_v25 res_main_while0b_v21
  pointwise []
  simp only [hx]
  rw [mu_read h ht b g, mask_read h ht b, h.mean b g, h.var b g, h.count b, h.eight]
  simp only [← EReal.coe_sub, ← EReal.coe_mul, sum_real]
  exact var_real _ _ _ _ (by positivity)

/-- The output's rows after the trip: row `t` is the trip's, the rows before it are kept. -/
theorem out_read (h : Inv S V t) (ht : t < 4096) (s : Fin 4096) (b : Fin 8) (g : Fin 128) (j : Fin 8) (hs : s.val < t + 1) :
    step_main_v10_9 V (ix4 s b g j : S4096x8x128x8.Idx) = S.out b s.val g j := by
  have hx := x_read h ht b g
  unfold step_main_v10_9
  rw [h.trip, id, WordCmp.dynamicUpdateSlice_eq_update _ _ _ _ ![t, 0, 0, 0]
    (fits4 ht) (by exact start4 ht)]
  pointwise []
  rw [mean_read h ht b g, var_read h ht b g, x_read h ht b g j, h.scale g j, h.shift g j]
  split
  · rename_i hin
    obtain ⟨h1, h2⟩ := hin (0 : Fin 4)
    have e : s.val = t := Nat.le_antisymm (Nat.lt_succ_iff.mp hs) h1
    rw [e]
    rfl
  · rename_i hout
    refine h.out s b g j (lt_of_le_of_ne (Nat.lt_succ_iff.mp hs) fun e => hout ?_)
    intro a
    have hb := b.isLt
    have hg := g.isLt
    have hj := j.isLt
    match a with
    | ⟨0, _⟩ => exact ⟨e.ge, by show s.val < t + 1; omega⟩
    | ⟨1, _⟩ => exact ⟨Nat.zero_le _, by show b.val < 0 + 8; omega⟩
    | ⟨2, _⟩ => exact ⟨Nat.zero_le _, by show g.val < 0 + 128; omega⟩
    | ⟨3, _⟩ => exact ⟨Nat.zero_le _, by show j.val < 0 + 8; omega⟩

/-- A trip carries what the arrays hold one timestep further. -/
theorem step (h : Inv S V t) (ht : t < 4096) : Inv S (STEP V) (t + 1) where
  x := by rw [STEP_main_v10_0]; exact h.x
  mask := by rw [STEP_main_v10_1]; exact h.mask
  eight := by rw [STEP_main_v10_2]; exact h.eight
  scale := by rw [STEP_main_v10_3]; exact h.scale
  shift := by rw [STEP_main_v10_4]; exact h.shift
  trip := by
    rw [STEP_main_v10_5]
    show addi (V (Proc.devRef .tc main_v10_5)) (constantI S_ 32 1#32) = _
    rw [h.trip]
    funext i
    show BitVec.ofNat 32 t + 1#32 = BitVec.ofNat 32 (t + 1)
    rw [BitVec.ofNat_add]
  count b := by
    rw [STEP_main_v10_6]
    unfold step_main_v10_6
    rw [id]
    pointwise []
    rw [h.count b, mask_read h ht b]
    show ((S.count b + t : ℝ) : EReal) + ((1 : ℝ) : EReal) = _
    rw [← EReal.coe_add, add_assoc, Nat.cast_add_one]
  mean := by rw [STEP_main_v10_7]; exact mean_read h ht
  var := by rw [STEP_main_v10_8]; exact var_read h ht
  out := by rw [STEP_main_v10_9]; exact out_read h ht

variable (m : (ℓ : Loc nD τ sig) → Buf (Elt Ideal) ℓ) (c : Dev nD)

/-- What @main leaves before the loop: the arguments, reshaped, and a count of zero trips. -/
theorem entry (h : S.Of (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))) : Inv S (entryContents preI m c) 0 where
  x s b g j := by
    simp only [entryContents, afterL_cons, afterL_nil]
    after_reads_simp
    pointwise []
    exact h.x b s g j
  mask s b := by
    simp only [entryContents, afterL_cons, afterL_nil]
    after_reads_simp
    change (transpose S4096x8 [1, 0] (sitofp .f32 (m ((c.tc : Thread nD τ).loc main_arg6) : IVec S8x4096 32))
      transposes_S8x4096_S4096x8_1_0 : FVec Ideal S4096x8 .f32) (ix2 s b) = (1 : EReal)
    pointwise []
    show ((((m ((c.tc : Thread nD τ).loc main_arg6) : IVec S8x4096 32) (ix2 b s)).toInt : ℝ) : EReal) = 1
    rw [h.mask b s]
    norm_num
  eight i := by
    simp only [entryContents, afterL_cons, afterL_nil]
    after_reads_simp
    exact ofBits_eight
  scale g j := by
    simp only [entryContents, afterL_cons, afterL_nil]
    after_reads_simp
    pointwise []
    exact h.scale g j
  shift g j := by
    simp only [entryContents, afterL_cons, afterL_nil]
    after_reads_simp
    pointwise []
    exact h.shift g j
  trip := by
    simp only [entryContents, afterL_cons, afterL_nil]
    after_reads_simp
    rfl
  count b := by
    simp only [entryContents, afterL_cons, afterL_nil]
    after_reads_simp
    rw [Nat.cast_zero, add_zero, ← h.count b]
    rfl
  mean b g := by
    simp only [entryContents, afterL_cons, afterL_nil]
    after_reads_simp
    exact h.mean b g
  var b g := by
    simp only [entryContents, afterL_cons, afterL_nil]
    after_reads_simp
    exact h.var b g
  out s b g j hs := absurd hs (Nat.not_lt_zero _)

/-- What the loop's arrays hold before trip `k`. -/
theorem iterate {V : Valuation τ sig (Elt Ideal)} (h : Inv S V 0) : ∀ k ≤ 4096, Inv S (STEP^[k] V) k
  | 0, _ => h
  | k + 1, hk => by
    rw [Function.iterate_succ_apply']
    exact step (iterate h k (by omega)) (by omega)

/-- After the last trip the loop's arrays hold the four results. -/
theorem results {V : Valuation τ sig (Elt Ideal)} (h : Inv S V 4096) :
    out_main_v12 V = S.outArray ∧ out_main_v13 V = S.countArray ∧
    (V (Proc.devRef .tc main_v10_7) : FVec Ideal S8x128 .f32) = S.meanArray ∧
    (V (Proc.devRef .tc main_v10_8) : FVec Ideal S8x128 .f32) = S.varArray := by
  refine ⟨?_, ?_, ?_, ?_⟩
  · funext i
    idx_vars i
    unfold out_main_v12
    pointwise []
    exact h.out i1 i0 (groupOf i2) (placeOf i2) i1.isLt
  · unfold out_main_v13
    refine congrArg (fptosi 32) (funext fun i => ?_)
    idx_vars i
    exact h.count i0
  · funext i
    idx_vars i
    exact h.mean _ _
  · funext i
    idx_vars i
    exact h.var _ _

end Cert.RefTrip

end
-- ==== Proof.Pre.lean ====
/-
  What the precondition says of the arguments: the mask is one everywhere, no count and no prior variance is negative,
  and `x`, the prior means and variances and the weights are finite. So the arguments hold real numbers (`start`,
  `start_of`).
-/
module

public import proofs.«01_k».proof.Defs
public import proofs.«01_k».proof.Proof.Start
public import Idealize.ShloMosaic.Lib.ReduceAll

@[expose] public section

set_option maxRecDepth 16384

noncomputable section

namespace Cert.Pre_valid

open Idealize.ShloMosaic

/-- The shape relations the precondition's operations take. -/
theorem facts : Facts where
  bcast_S_S8x4096 := by decide
  reducesTo_S8x4096_S_d0_1 := by decide
  h_S_ := by decide
  bcast_S_S8 := by decide
  reducesTo_S8_S_d0 := by decide
  bcast_S_S8x128 := by decide
  reducesTo_S8x128_S_d0_1 := by decide
  bcast_S_S8x4096x1024 := by decide
  reducesTo_S8x4096x1024_S_d0_1_2 := by decide
  bcast_S_S1024 := by decide
  reducesTo_S1024_S_d0 := by decide

/-- The float word of infinity is the top of the extended reals. -/
theorem ofBits_inf : Ideal.ofBits .f32 0x7F800000#32 = ⊤ := by
  simp [Ideal.ofBits, Ideal.ieee]

/-- The zero word is zero. -/
theorem ofBits_zero : Ideal.ofBits .f32 0x00000000#32 = 0 := by
  simp [Ideal.ofBits, Ideal.ieee]

/-- A truth value whose one-bit word is one. -/
theorem ofBool_one {b : Bool} (h : BitVec.ofBool b = 1#1) : b = true := by
  revert h
  cases b <;> decide

/-- A float comparison "at least" that came out one. -/
theorem le_of_cmp {a b : EReal} (h : Ideal.cmp .oge a b = 1#1) : b ≤ a := by
  exact of_decide_eq_true (ofBool_one h)

/-- A float comparison "less than" that came out one. -/
theorem lt_of_cmp {a b : EReal} (h : Ideal.cmp .olt a b = 1#1) : a < b := by
  exact of_decide_eq_true (ofBool_one h)

/-- A value whose absolute value lies below infinity is a real. -/
theorem real_of_abs {x : EReal} (h : max x (-x) < ⊤) : ∃ r : ℝ, x = (r : EReal) := by
  induction x with
  | bot => simp at h
  | coe r => exact ⟨r, rfl⟩
  | top => simp at h

/-- A nonnegative value below infinity is a nonnegative real. -/
theorem real_of_nonneg {x : EReal} (h0 : 0 ≤ x) (h : x < ⊤) : ∃ r : ℝ, 0 ≤ r ∧ x = (r : EReal) := by
  induction x with
  | bot => simp at h0
  | coe r => exact ⟨r, by exact_mod_cast h0, rfl⟩
  | top => simp at h

variable [Facts] (x : FVec Ideal S8x4096x1024 .f32) (count : IVec S8 32) (mean var : FVec Ideal S8x128 .f32)
  (weight bias : FVec Ideal S1024 .f32) (mask : IVec S8x4096 32)

/-- The precondition, element by element. -/
theorem decode (h : fn (F := Ideal) x count mean var weight bias mask = fun _ => 1#1) :
    (∀ i, mask i = 1#32) ∧ (∀ i, 0 ≤ (count i).toInt) ∧ (∀ i, (0 : EReal) ≤ var i) ∧
    (∀ i, max (x i) (-(x i)) < (⊤ : EReal)) ∧ (∀ i, max (mean i) (-(mean i)) < (⊤ : EReal)) ∧
    (∀ i, var i < (⊤ : EReal)) ∧ (∀ i, max (weight i) (-(weight i)) < (⊤ : EReal)) := by
  have e := congrFun h ix0
  have one : ∀ {a b : IVec S_ 1}, andi a b ix0 = 1#1 → a ix0 = 1#1 ∧ b ix0 = 1#1 := fun h => IntOp.andi_eq_one.1 h
  obtain ⟨e, h7⟩ := one e
  obtain ⟨e, h6⟩ := one e
  obtain ⟨e, h5⟩ := one e
  obtain ⟨e, h4⟩ := one e
  obtain ⟨e, h3⟩ := one e
  obtain ⟨h1, h2⟩ := one e
  have s0 : Subsingleton S_.Idx := ⟨fun a b => funext fun i => i.elim0⟩
  exact ⟨fun i => IntOp.cmpi_eq.1 (Host.reduce_andi_all _ _ _ _ _ h1 i),
    fun i => IntOp.cmpi_sge.1 (Host.reduce_andi_all _ _ _ _ _ h2 i),
    fun i => ofBits_zero ▸ le_of_cmp (Host.reduce_andi_all _ _ _ _ _ h3 i),
    fun i => ofBits_inf ▸ lt_of_cmp (Host.reduce_andi_all _ _ _ _ _ h4 i),
    fun i => ofBits_inf ▸ lt_of_cmp (Host.reduce_andi_all _ _ _ _ _ h5 i),
    fun i => ofBits_inf ▸ lt_of_cmp (Host.reduce_andi_all _ _ _ _ _ h6 i),
    fun i => ofBits_inf ▸ lt_of_cmp (Host.reduce_andi_all _ _ _ _ _ h7 i)⟩

/-- Under the precondition, the arguments hold the numbers of some start. -/
theorem start_of (h : fn (F := Ideal) x count mean var weight bias mask = fun _ => 1#1) :
    ∃ S : Start, S.Of x count mean var weight bias mask := by
  obtain ⟨hk, hc, hv, hx, hm, hv', hw⟩ := decode x count mean var weight bias mask h
  choose rx ex using fun i => real_of_abs (hx i)
  choose rm em using fun i => real_of_abs (hm i)
  choose rv pv ev using fun i => real_of_nonneg (hv i) (hv' i)
  choose rw' ew using fun i => real_of_abs (hw i)
  refine ⟨{ x := fun b t g j => if ht : t < 4096 then rx (ix3 b ⟨t, ht⟩ (lane g j)) else 0
            count := fun b => ((count (ix1 b)).toInt : ℝ)
            mean := fun b g => rm (ix2 b g)
            var := fun b g => rv (ix2 b g)
            scale := fun g j => rw' (ix1 (lane g j)) + 1
            shift := fun g j => bias (ix1 (lane g j))
            count_nonneg := fun b => by exact_mod_cast hc _
            var_nonneg := fun b g => pv _ }, ?_⟩
  exact
    { x := fun b s g j => by
        refine (ex _).trans (congrArg _ ?_)
        have hs := s.isLt
        simp [hs]
      count := fun b => rfl
      mean := fun b g => em _
      var := fun b g => ev _
      scale := fun g j => by rw [ew, EReal.coe_add, EReal.coe_one]
      shift := fun g j => rfl
      mask := fun b s => by rw [hk]; rfl }

end Cert.Pre_valid

end
-- ==== Proof.Algebraic.lean ====
/-
  The kernel and the reference leave the same four results from the same valid arguments.
-/
module

public import proofs.«01_k».proof.Defs
public import proofs.«01_k».proof.Proof.Value
public import proofs.«01_k».proof.Proof.RefTrip
public import proofs.«01_k».proof.Proof.Pre

@[expose] public section

set_option maxRecDepth 16384

noncomputable section

namespace Cert

open Idealize.ShloMosaic Idealize.ShloMosaic.TcCoe Idealize.SL.Sem

/-- The reference's run from arguments that hold a start: its four results are the start's arrays. -/
theorem reference_run (m : (ℓ : Loc ReferenceIdeal.nD ReferenceIdeal.τ ReferenceIdeal.sig) → Buf (Elt Ideal) ℓ)
    (g : Dev ReferenceIdeal.nD → PrngReg) (S : Dev ReferenceIdeal.nD → Start)
    (h : ∀ c : Dev ReferenceIdeal.nD, (S c).Of
      (m ((c.tc : Thread ReferenceIdeal.nD ReferenceIdeal.τ).loc ReferenceIdeal.main_arg0))
      (m ((c.tc : Thread ReferenceIdeal.nD ReferenceIdeal.τ).loc ReferenceIdeal.main_arg1))
      (m ((c.tc : Thread ReferenceIdeal.nD ReferenceIdeal.τ).loc ReferenceIdeal.main_arg2))
      (m ((c.tc : Thread ReferenceIdeal.nD ReferenceIdeal.τ).loc ReferenceIdeal.main_arg3))
      (m ((c.tc : Thread ReferenceIdeal.nD ReferenceIdeal.τ).loc ReferenceIdeal.main_arg4))
      (m ((c.tc : Thread ReferenceIdeal.nD ReferenceIdeal.τ).loc ReferenceIdeal.main_arg5))
      (m ((c.tc : Thread ReferenceIdeal.nD ReferenceIdeal.τ).loc ReferenceIdeal.main_arg6))) :
    θ_run (ReferenceIdeal.defs (F := Ideal)) (onTc (τ := ReferenceIdeal.τ) (ReferenceIdeal.main (F := Ideal)))
      ⟨m, fun _ => 0, g⟩ (fun r => ∀ c : Dev ReferenceIdeal.nD,
        (r.2.mem ((c.tc : Thread ReferenceIdeal.nD ReferenceIdeal.τ).loc ReferenceIdeal.main_v12) = (S c).outArray
          ∧ r.2.mem ((c.tc : Thread ReferenceIdeal.nD ReferenceIdeal.τ).loc ReferenceIdeal.main_v13) = (S c).countArray
          ∧ r.2.mem ((c.tc : Thread ReferenceIdeal.nD ReferenceIdeal.τ).loc ReferenceIdeal.main_v10_7) = (S c).meanArray
          ∧ r.2.mem ((c.tc : Thread ReferenceIdeal.nD ReferenceIdeal.τ).loc ReferenceIdeal.main_v10_8) = (S c).varArray)) :=
  (θ_run ReferenceIdeal.defs _ _).mono (fun r hr c => by
    have he := RefTrip.results (RefTrip.iterate (RefTrip.entry m c (h c)) 4096 le_rfl)
    obtain ⟨h1, h2, h3, h4, -⟩ := hr c
    exact ⟨h1.trans he.1, h2.trans he.2.1, h3.trans he.2.2.1, h4.trans he.2.2.2⟩) (ReferenceIdeal.Value.run m g)

/-- The kernel's and the reference's results agree on valid arguments. -/
theorem algebraic [Pre_valid.Facts] :
    algebraic_KernelIdeal_ReferenceIdeal_pre_valid (hKernelIdeal := KernelIdeal.Gen.facts)
      (hReferenceIdeal := ReferenceIdeal.Gen.facts) := by
  intro m g m' g' hpre hagree
  choose S hS using fun c => Pre_valid.start_of _ _ _ _ _ _ _ (hpre c)
  refine ⟨fun c => (S c).outArray, fun c => (S c).countArray, fun c => (S c).meanArray, fun c => (S c).varArray, ?_, ?_⟩
  · refine (θ_run KernelIdeal.defs _ _).mono (fun r hr c => ?_) (KernelIdeal.Value.run m g S hS)
    obtain ⟨⟨h1, h2, h3, h4⟩, h5⟩ := hr c
    exact ⟨h1, h2, h3, h4, h5⟩
  · refine (θ_run ReferenceIdeal.defs _ _).mono (fun r hr c => ?_)
      (θ_run_and (reference_run m' g' S fun c => ?_) (ReferenceIdeal.Value.run m' g'))
    · obtain ⟨h1, h2, h3, h4⟩ := hr.1 c
      exact ⟨h1, h2, h3, h4, (hr.2 c).2.2.2.2⟩
    · obtain ⟨e0, e1, e2, e3, e4, e5, e6⟩ := hagree c
      rw [e0, e1, e2, e3, e4, e5, e6]
      exact hS c

end Cert

end
-- ==== Proof.lean ====
/- The proof of the certificate's claim: the frames of the three programs, the ideal kernel as the kernel over the
   extended reals, and the kernel's four results as the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Lib.Quiescent

@[expose] public section

noncomputable section

namespace Cert.Proof

open Idealize.ShloMosaic Idealize.SL.Sem

/-- The reference ends, with its arguments unchanged and no semaphore counted up. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- The certificate's claim. -/
theorem claim : Cert.Claim :=
  ⟨Cert.Kernel.Gen.facts, Cert.KernelIdeal.Gen.facts, Cert.ReferenceIdeal.Gen.facts, Cert.Pre_valid.facts,
    fun m ρ _ => Cert.Kernel.Gen.frame m ρ, fun m ρ _ => Cert.KernelIdeal.Gen.frame m ρ,
    fun m ρ _ => Cert.KernelIdeal.Gen.frame m ρ, reference_frame, fun m ρ h => reference_frame m ρ trivial,
    trivial, @Cert.algebraic Cert.Pre_valid.facts⟩

end Cert.Proof

end
